-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_16_is_decided [hPre_top_16_is_decided : Cert.Pre_top_16_is_decided.Facts] (m : (ℓ : Loc Cert.KernelIdeal.nD Cert.KernelIdeal.τ Cert.KernelIdeal.sig) → Buf (Elt Ideal) ℓ) : Prop :=
  ∀ c : Dev Cert.KernelIdeal.nD,
    (Cert.Pre_top_16_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_16_is_decided [hPre_top_16_is_decided : Cert.Pre_top_16_is_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_16_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_top_16_is_decided [hKernelIdeal : Cert.KernelIdeal.Facts] [hPre_top_16_is_decided : Cert.Pre_top_16_is_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_16_is_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_top_16_is_decided [hReferenceIdeal : Cert.ReferenceIdeal.Facts] [hPre_top_16_is_decided : Cert.Pre_top_16_is_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_16_is_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale" .f32 0x3E3504F3#32 (((Real.sqrt 32)⁻¹ : ℝ) : EReal)
  ∧ IdealRules.named_const.Statement Cert.KernelIdeal.κ "mask" .f32 0xF149F2CA#32 ⊥

def algebraic_KernelIdeal_ReferenceIdeal_pre_top_16_is_decided [hKernelIdeal : Cert.KernelIdeal.Facts] [hReferenceIdeal : Cert.ReferenceIdeal.Facts] [hPre_top_16_is_decided : Cert.Pre_top_16_is_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_16_is_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_top_16_is_decided : Cert.Pre_top_16_is_decided.Facts),
    quiescent_Kernel (hKernel := hKernel)
    ∧ quiescent_KernelIdeal (hKernelIdeal := hKernelIdeal)
    ∧ quiescent_KernelIdeal_pre_top_16_is_decided (hKernelIdeal := hKernelIdeal) (hPre_top_16_is_decided := hPre_top_16_is_decided)
    ∧ quiescent_ReferenceIdeal (hReferenceIdeal := hReferenceIdeal)
    ∧ quiescent_ReferenceIdeal_pre_top_16_is_decided (hReferenceIdeal := hReferenceIdeal) (hPre_top_16_is_decided := hPre_top_16_is_decided)
    ∧ preserves_Kernel_KernelIdeal
    ∧ algebraic_KernelIdeal_ReferenceIdeal_pre_top_16_is_decided (hKernelIdeal := hKernelIdeal) (hReferenceIdeal := hReferenceIdeal) (hPre_top_16_is_decided := hPre_top_16_is_decided)
-- ==== Pre_top_16_is_decided.lean ====
abbrev S128x256x64x25 : Shape := ⟨4, ![128, 256, 64, 25]⟩
abbrev S32x256 : Shape := ⟨2, ![32, 256]⟩
abbrev S32 : Shape := ⟨1, ![32]⟩
abbrev S32x128 : Shape := ⟨2, ![32, 128]⟩
abbrev S32x128x64x25 : Shape := ⟨4, ![32, 128, 64, 25]⟩
abbrev S128x32x64x25 : Shape := ⟨4, ![128, 32, 64, 25]⟩
abbrev S1x32x1x1 : Shape := ⟨4, ![1, 32, 1, 1]⟩
abbrev S_ : Shape := ⟨0, ![]⟩
abbrev S128x32x25 : Shape := ⟨3, ![128, 32, 25]⟩
abbrev S128x25 : Shape := ⟨2, ![128, 25]⟩
abbrev S128x1x25 : Shape := ⟨3, ![128, 1, 25]⟩
abbrev S128x25x32 : Shape := ⟨3, ![128, 25, 32]⟩
abbrev S128x25x128 : Shape := ⟨3, ![128, 25, 128]⟩
abbrev S128x25x1x128 : Shape := ⟨4, ![128, 25, 1, 128]⟩
abbrev S128x25x128x1 : Shape := ⟨4, ![128, 25, 128, 1]⟩
abbrev S128x25x128x128 : Shape := ⟨4, ![128, 25, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x128x128 : Shape := ⟨4, ![1, 1, 128, 128]⟩

class Facts : Prop where
  transposes_S32x128x64x25_S128x32x64x25_1_0_2_3 : S32x128x64x25.Transposes [1, 0, 2, 3] S128x32x64x25
  bcast_S32_S1x32x1x1_1 : S32.BroadcastsInDim S1x32x1x1 (![1] : Fin 1 → Fin S1x32x1x1.rank)
  bcast_S1x32x1x1_S128x32x64x25_0_1_2_3 : S1x32x1x1.BroadcastsInDim S128x32x64x25 (![0, 1, 2, 3] : Fin 4 → Fin S128x32x64x25.rank)
  reducesTo_S128x32x64x25_S128x32x25_d2 : S128x32x64x25.ReducesTo [2] S128x32x25
  h_S_ : 0 < S_.numel
  bcast_S_S128x32x25 : S_.BroadcastsInDim S128x32x25 (![] : Fin 0 → Fin S128x32x25.rank)
  reducesTo_S128x32x25_S128x25_d1 : S128x32x25.ReducesTo [1] S128x25
  bcast_S128x25_S128x1x25_0_2 : S128x25.BroadcastsInDim S128x1x25 (![0, 2] : Fin 2 → Fin S128x1x25.rank)
  bcast_S_S128x1x25 : S_.BroadcastsInDim S128x1x25 (![] : Fin 0 → Fin S128x1x25.rank)
  bcast_S128x1x25_S128x32x25_0_1_2 : S128x1x25.BroadcastsInDim S128x32x25 (![0, 1, 2] : Fin 3 → Fin S128x32x25.rank)
  transposes_S128x32x25_S128x25x32_0_2_1 : S128x32x25.Transposes [0, 2, 1] S128x25x32
  bcast_S128x25x128_S128x25x1x128_0_1_3 : S128x25x128.BroadcastsInDim S128x25x1x128 (![0, 1, 3] : Fin 3 → Fin S128x25x1x128.rank)
  bcast_S128x25x128_S128x25x128x1_0_1_2 : S128x25x128.BroadcastsInDim S128x25x128x1 (![0, 1, 2] : Fin 3 → Fin S128x25x128x1.rank)
  bcast_S128x25x1x128_S128x25x128x128_0_1_2_3 : S128x25x1x128.BroadcastsInDim S128x25x128x128 (![0, 1, 2, 3] : Fin 4 → Fin S128x25x128x128.rank)
  bcast_S128x25x128x1_S128x25x128x128_0_1_2_3 : S128x25x128x1.BroadcastsInDim S128x25x128x128 (![0, 1, 2, 3] : Fin 4 → Fin S128x25x128x128.rank)
  natLt_1_32 : 1 < 32
  reducesTo_S128x25x128x128_S128x25x128_d3 : S128x25x128x128.ReducesTo [3] S128x25x128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128x128_S1x1x128x128_2_3 : S128x128.BroadcastsInDim S1x1x128x128 (![2, 3] : Fin 2 → Fin S1x1x128x128.rank)
  bcast_S1x1x128x128_S128x25x128x128_0_1_2_3 : S1x1x128x128.BroadcastsInDim S128x25x128x128 (![0, 1, 2, 3] : Fin 4 → Fin S128x25x128x128.rank)
  bcast_S_S128x25x128x1 : S_.BroadcastsInDim S128x25x128x1 (![] : Fin 0 → Fin S128x25x128x1.rank)
  dot_S32x256_S128x256x64x25_S32x128x64x25_1_1_0_023_n_n_wf : DotDims.WF S32x256 S128x256x64x25 S32x128x64x25 [1] [1] [0] [0, 2, 3] [] []
  dot_S128x25x32_S32x128_S128x25x128_2_0_01_1_n_n_wf : DotDims.WF S128x25x32 S32x128 S128x25x128 [2] [0] [0, 1] [1] [] []

variable [Facts]

def dot_S32x256_S128x256x64x25_S32x128x64x25_1_1_0_023_n_n : DotDims S32x256 S128x256x64x25 S32x128x64x25 where
  lhsContracting := [1]
  rhsContracting := [1]
  lhsNonContracting := [0]
  rhsNonContracting := [0, 2, 3]
  lhsBatch := []
  rhsBatch := []
  wf := dot_S32x256_S128x256x64x25_S32x128x64x25_1_1_0_023_n_n_wf
def dot_S128x25x32_S32x128_S128x25x128_2_0_01_1_n_n : DotDims S128x25x32 S32x128 S128x25x128 where
  lhsContracting := [2]
  rhsContracting := [0]
  lhsNonContracting := [0, 1]
  rhsNonContracting := [1]
  lhsBatch := []
  rhsBatch := []
  wf := dot_S128x25x32_S32x128_S128x25x128_2_0_01_1_n_n_wf
def fn_norm {F : FTy → Type} [FloatOps F] (arg0 : FVec F S128x32x25 .f32) : FVec F S128x1x25 .f32 :=
  let v0 : FVec F S128x32x25 .f32 := mulf arg0 arg0
  let cst : FVec F S_ .f32 := constant S_ .f32 0x00000000#32
  let v1 : FVec F S128x25 .f32 := (fun x v => Host.reduceAdd x v reducesTo_S128x32x25_S128x25_d1 h_S_) v0 cst
  let v2 : FVec F S128x1x25 .f32 := broadcastInDim S128x1x25 ![0, 2] bcast_S128x25_S128x1x25_0_2 v1
  let v3 : FVec F S128x1x25 .f32 := Host.sqrt v2
  v3

def fn_part2 {F : FTy → Type} [FloatOps F] (main_v14 : FVec F S128x25x128 .f32) (main_v42 : IVec S128x25x128x128 1) : IVec S128x25x128x128 1 :=
  let main_v43 : FVec F S128x25x128x1 .f32 := broadcastInDim S128x25x128x1 ![0, 1, 2] bcast_S128x25x128_S128x25x128x1_0_1_2 main_v14
  let main_cst_3 : FVec F S_ .f32 := constant S_ .f32 0x7F800000#32
  let main_v44 : FVec F S128x25x128x1 .f32 := broadcastInDim S128x25x128x1 ![] bcast_S_S128x25x128x1 main_cst_3
  let main_v45 : IVec S128x25x128x1 1 := cmpf .olt main_v43 main_v44
  let main_v46 : IVec S128x25x128x128 1 := broadcastInDim S128x25x128x128 ![0, 1, 2, 3] bcast_S128x25x128x1_S128x25x128x128_0_1_2_3 main_v45
  let main_v47 : IVec S128x25x128x128 1 := andi main_v42 main_v46
  main_v47

def fn_part1 {F : FTy → Type} [FloatOps F] (main_v14 : FVec F S128x25x128 .f32) (main_v20 : IVec S128x25x128x128 32) : IVec S128x25x128x128 1 :=
  let main_c : IVec S_ 32 := constantI S_ 32 0#32
  let main_v21 : IVec S128x25x128 32 := (fun x v => Host.reduce IntOp.addi x v reducesTo_S128x25x128x128_S128x25x128_d3 h_S_) main_v20 main_c
  let main_v22 : FVec F S128x25x128x1 .f32 := broadcastInDim S128x25x128x1 ![0, 1, 2] bcast_S128x25x128_S128x25x128x1_0_1_2 main_v14
  let main_v23 : FVec F S128x25x1x128 .f32 := broadcastInDim S128x25x1x128 ![0, 1, 3] bcast_S128x25x128_S128x25x1x128_0_1_3 main_v14
  let main_v24 : FVec F S128x25x128x128 .f32 := broadcastInDim S128x25x128x128 ![0, 1, 2, 3] bcast_S128x25x128x1_S128x25x128x128_0_1_2_3 main_v22
  let main_v25 : FVec F S128x25x128x128 .f32 := broadcastInDim S128x25x128x128 ![0, 1, 2, 3] bcast_S128x25x1x128_S128x25x128x128_0_1_2_3 main_v23
  let main_v26 : IVec S128x25x128x128 1 := cmpf .oeq main_v24 main_v25
  let main_v27 : IVec S128 32 := iotaInDim S128 32 0
  let main_v28 : IVec S128x1 32 := broadcastInDim S128x1 ![0] bcast_S128_S128x1_0 main_v27
  let main_v29 : IVec S128 32 := iotaInDim S128 32 0
  let main_v30 : IVec S1x128 32 := broadcastInDim S1x128 ![1] bcast_S128_S1x128_1 main_v29
  let main_v31 : IVec S128x128 32 := broadcastInDim S128x128 ![0, 1] bcast_S128x1_S128x128_0_1 main_v28
  let main_v32 : IVec S128x128 32 := broadcastInDim S128x128 ![0, 1] bcast_S1x128_S128x128_0_1 main_v30
  let main_v33 : IVec S128x128 1 := cmpi .ne main_v31 main_v32
  let main_v34 : IVec S1x1x128x128 1 := broadcastInDim S1x1x128x128 ![2, 3] bcast_S128x128_S1x1x128x128_2_3 main_v33
  let main_v35 : IVec S128x25x128x128 1 := broadcastInDim S128x25x128x128 ![0, 1, 2, 3] bcast_S1x1x128x128_S128x25x128x128_0_1_2_3 main_v34
  let main_v36 : IVec S128x25x128x128 1 := andi main_v26 main_v35
  let main_v37 : IVec S128x25x128x128 1 := noti main_v36
  let main_v38 : IVec S128x25x128x1 32 := broadcastInDim S128x25x128x1 ![0, 1, 2] bcast_S128x25x128_S128x25x128x1_0_1_2 main_v21
  let main_c_2 : IVec S_ 32 := constantI S_ 32 16#32
  let main_v39 : IVec S128x25x128x1 32 := broadcastInDim S128x25x128x1 ![] bcast_S_S128x25x128x1 main_c_2
  let main_v40 : IVec S128x25x128x1 1 := cmpi .sge main_v38 main_v39
  let main_v41 : IVec S128x25x128x128 1 := broadcastInDim S128x25x128x128 ![0, 1, 2, 3] bcast_S128x25x128x1_S128x25x128x128_0_1_2_3 main_v40
  let main_v42 : IVec S128x25x128x128 1 := ori main_v37 main_v41
  fn_part2 (F := F) main_v14 main_v42

def fn {F : FTy → Type} [FloatOps F] (main_arg0 : FVec F S128x256x64x25 .f32) (main_arg1 : FVec F S32x256 .f32) (main_arg2 : FVec F S32 .f32) (main_arg3 : FVec F S32x128 .f32) : IVec S128x25x128x128 1 :=
  let main_v0 : FVec F S32x128x64x25 .f32 := (fun l r => Host.dotGeneral dot_S32x256_S128x256x64x25_S32x128x64x25_1_1_0_023_n_n none l r) main_arg1 main_arg0
  let main_v1 : FVec F S128x32x64x25 .f32 := (transpose S128x32x64x25 [1, 0, 2, 3] · transposes_S32x128x64x25_S128x32x64x25_1_0_2_3) main_v0
  let main_v2 : FVec F S1x32x1x1 .f32 := broadcastInDim S1x32x1x1 ![1] bcast_S32_S1x32x1x1_1 main_arg2
  let main_v3 : FVec F S128x32x64x25 .f32 := broadcastInDim S128x32x64x25 ![0, 1, 2, 3] bcast_S1x32x1x1_S128x32x64x25_0_1_2_3 main_v2
  let main_v4 : FVec F S128x32x64x25 .f32 := addf main_v1 main_v3
  let main_cst : FVec F S_ .f32 := constant S_ .f32 0x00000000#32
  let main_v5 : FVec F S128x32x25 .f32 := (fun x v => Host.reduceAdd x v reducesTo_S128x32x64x25_S128x32x25_d2 h_S_) main_v4 main_cst
  let main_cst_0 : FVec F S_ .f32 := constant S_ .f32 0x42800000#32
  let main_v6 : FVec F S128x32x25 .f32 := broadcastInDim S128x32x25 ![] bcast_S_S128x32x25 main_cst_0
  let main_v7 : FVec F S128x32x25 .f32 := Host.divf main_v5 main_v6
  let main_v8 : FVec F S128x1x25 .f32 := fn_norm (F := F) main_v7
  let main_cst_1 : FVec F S_ .f32 := constant S_ .f32 0x2B8CBCCC#32
  let main_v9 : FVec F S128x1x25 .f32 := broadcastInDim S128x1x25 ![] bcast_S_S128x1x25 main_cst_1
  let main_v10 : FVec F S128x1x25 .f32 := maximumf main_v8 main_v9
  let main_v11 : FVec F S128x32x25 .f32 := broadcastInDim S128x32x25 ![0, 1, 2] bcast_S128x1x25_S128x32x25_0_1_2 main_v10
  let main_v12 : FVec F S128x32x25 .f32 := Host.divf main_v7 main_v11
  let main_v13 : FVec F S128x25x32 .f32 := (transpose S128x25x32 [0, 2, 1] · transposes_S128x32x25_S128x25x32_0_2_1) main_v12
  let main_v14 : FVec F S128x25x128 .f32 := (fun l r => Host.dotGeneral dot_S128x25x32_S32x128_S128x25x128_2_0_01_1_n_n none l r) main_v13 main_arg3
  let main_v15 : FVec F S128x25x1x128 .f32 := broadcastInDim S128x25x1x128 ![0, 1, 3] bcast_S128x25x128_S128x25x1x128_0_1_3 main_v14
  let main_v16 : FVec F S128x25x128x1 .f32 := broadcastInDim S128x25x128x1 ![0, 1, 2] bcast_S128x25x128_S128x25x128x1_0_1_2 main_v14
  let main_v17 : FVec F S128x25x128x128 .f32 := broadcastInDim S128x25x128x128 ![0, 1, 2, 3] bcast_S128x25x1x128_S128x25x128x128_0_1_2_3 main_v15
  let main_v18 : FVec F S128x25x128x128 .f32 := broadcastInDim S128x25x128x128 ![0, 1, 2, 3] bcast_S128x25x128x1_S128x25x128x128_0_1_2_3 main_v16
  let main_v19 : IVec S128x25x128x128 1 := cmpf .ogt main_v17 main_v18
  let main_v20 : IVec S128x25x128x128 32 := (extui 32 · natLt_1_32) main_v19
  fn_part1 (F := F) main_v14 main_v20
-- ==== Kernel.lean ====
abbrev S128x256x64x25 : Shape := ⟨4, ![128, 256, 64, 25]⟩
abbrev S32x256 : Shape := ⟨2, ![32, 256]⟩
abbrev S32 : Shape := ⟨1, ![32]⟩
abbrev S32x128 : Shape := ⟨2, ![32, 128]⟩
abbrev S128x25x64x256 : Shape := ⟨4, ![128, 25, 64, 256]⟩
abbrev S1x32 : Shape := ⟨2, ![1, 32]⟩
abbrev S128x25x128 : Shape := ⟨3, ![128, 25, 128]⟩
abbrev S16x25x64x256 : Shape := ⟨4, ![16, 25, 64, 256]⟩
abbrev S16x25x128 : Shape := ⟨3, ![16, 25, 128]⟩
abbrev S1x25x64x256 : Shape := ⟨4, ![1, 25, 64, 256]⟩
abbrev S25x64x256 : Shape := ⟨3, ![25, 64, 256]⟩
abbrev S1600x256 : Shape := ⟨2, ![1600, 256]⟩
abbrev S1600x32 : Shape := ⟨2, ![1600, 32]⟩
abbrev S25x64x32 : Shape := ⟨3, ![25, 64, 32]⟩
abbrev S25x32 : Shape := ⟨2, ![25, 32]⟩
abbrev S25 : Shape := ⟨1, ![25]⟩
abbrev S25x1 : Shape := ⟨2, ![25, 1]⟩
abbrev S25x128 : Shape := ⟨2, ![25, 128]⟩
abbrev S1x25x128 : Shape := ⟨3, ![1, 25, 128]⟩
abbrev S16x25 : Shape := ⟨2, ![16, 25]⟩
abbrev S16x25x1 : Shape := ⟨3, ![16, 25, 1]⟩

abbrev nBuf : Space → Nat
  | .hbm => 7
  | .vmem => 7
  | .smem => 0
  | _ => 0

abbrev bufTy : (tb : Table) → Fin (tcTables nBuf tb) → BufTy
  | .hbm, ⟨0, _⟩ => ⟨S128x256x64x25, .f32⟩
  | .hbm, ⟨1, _⟩ => ⟨S32x256, .f32⟩
  | .hbm, ⟨2, _⟩ => ⟨S32, .f32⟩
  | .hbm, ⟨3, _⟩ => ⟨S32x128, .f32⟩
  | .hbm, ⟨4, _⟩ => ⟨S128x25x64x256, .f32⟩
  | .hbm, ⟨5, _⟩ => ⟨S1x32, .f32⟩
  | .hbm, ⟨6, _⟩ => ⟨S128x25x128, .f32⟩
  | .local _ .vmem, ⟨0, _⟩ => ⟨S16x25x64x256, .f32⟩
  | .local _ .vmem, ⟨1, _⟩ => ⟨S16x25x64x256, .f32⟩
  | .local _ .vmem, ⟨2, _⟩ => ⟨S32x256, .f32⟩
  | .local _ .vmem, ⟨3, _⟩ => ⟨S1x32, .f32⟩
  | .local _ .vmem, ⟨4, _⟩ => ⟨S32x128, .f32⟩
  | .local _ .vmem, ⟨5, _⟩ => ⟨S16x25x128, .f32⟩
  | .local _ .vmem, ⟨6, _⟩ => ⟨S16x25x128, .f32⟩
  | _, _ => ⟨S128x256x64x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x25x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x25x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | "scale" => some (((Real.sqrt 32)⁻¹ : ℝ) : EReal)
  | _ => none
-- ==== ReferenceIdeal.lean ====
abbrev S128x256x64x25 : Shape := ⟨4, ![128, 256, 64, 25]⟩
abbrev S32x256 : Shape := ⟨2, ![32, 256]⟩
abbrev S32 : Shape := ⟨1, ![32]⟩
abbrev S32x128 : Shape := ⟨2, ![32, 128]⟩
abbrev S_ : Shape := ⟨0, ![]⟩
abbrev S32x128x64x25 : Shape := ⟨4, ![32, 128, 64, 25]⟩
abbrev S128x32x64x25 : Shape := ⟨4, ![128, 32, 64, 25]⟩
abbrev S1x32x1x1 : Shape := ⟨4, ![1, 32, 1, 1]⟩
abbrev S128x32x25 : Shape := ⟨3, ![128, 32, 25]⟩
abbrev S128x25 : Shape := ⟨2, ![128, 25]⟩
abbrev S128x1x25 : Shape := ⟨3, ![128, 1, 25]⟩
abbrev S128x25x32 : Shape := ⟨3, ![128, 25, 32]⟩
abbrev S128x25x128 : Shape := ⟨3, ![128, 25, 128]⟩
abbrev S128x25x16 : Shape := ⟨3, ![128, 25, 16]⟩
abbrev S128x25x1 : Shape := ⟨3, ![128, 25, 1]⟩
abbrev S128 : Shape := ⟨1, ![128]⟩
abbrev S128x1x1 : Shape := ⟨3, ![128, 1, 1]⟩
abbrev S25 : Shape := ⟨1, ![25]⟩
abbrev S1x25x1 : Shape := ⟨3, ![1, 25, 1]⟩
abbrev S128x25x16x1 : Shape := ⟨4, ![128, 25, 16, 1]⟩
abbrev S128x25x16x3 : Shape := ⟨4, ![128, 25, 16, 3]⟩

abbrev nBuf : Space → Nat
  | .hbm => 82
  | .vmem => 0
  | .smem => 0
  | _ => 0

abbrev bufTy : (tb : Table) → Fin (tcTables nBuf tb) → BufTy
  | .hbm, ⟨0, _⟩ => ⟨S128x256x64x25, .f32⟩
  | .hbm, ⟨1, _⟩ => ⟨S32x256, .f32⟩
  | .hbm, ⟨2, _⟩ => ⟨S32, .f32⟩
  | .hbm, ⟨3, _⟩ => ⟨S32x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x128x64x25, .f32⟩
  | .hbm, ⟨9, _⟩ => ⟨S128x32x64x25, .f32⟩
  | .hbm, ⟨10, _⟩ => ⟨S1x32x1x1, .f32⟩
  | .hbm, ⟨11, _⟩ => ⟨S128x32x64x25, .f32⟩
  | .hbm, ⟨12, _⟩ => ⟨S128x32x64x25, .f32⟩
  | .hbm, ⟨13, _⟩ => ⟨S_, .f32⟩
  | .hbm, ⟨14, _⟩ => ⟨S128x32x25, .f32⟩
  | .hbm, ⟨15, _⟩ => ⟨S_, .f32⟩
  | .hbm, ⟨16, _⟩ => ⟨S128x32x25, .f32⟩
  | .hbm, ⟨17, _⟩ => ⟨S128x32x25, .f32⟩
  | .hbm, ⟨18, _⟩ => ⟨S128x32x25, .f32⟩
  | .hbm, ⟨19, _⟩ => ⟨S_, .f32⟩
  | .hbm, ⟨20, _⟩ => ⟨S128x25, .f32⟩
  | .hbm, ⟨21, _⟩ => ⟨S128x1x25, .f32⟩
  | .hbm, ⟨22, _⟩ => ⟨S128x1x25, .f32⟩
  | .hbm, ⟨23, _⟩ => ⟨S_, .f32⟩
  | .hbm, ⟨24, _⟩ => ⟨S128x1x25, .f32⟩
  | .hbm, ⟨25, _⟩ => ⟨S128x1x25, .f32⟩
  | .hbm, ⟨26, _⟩ => ⟨S128x32x25, .f32⟩
  | .hbm, ⟨27, _⟩ => ⟨S128x32x25, .f32⟩
  | .hbm, ⟨28, _⟩ => ⟨S128x25x32, .f32⟩
  | .hbm, ⟨29, _⟩ => ⟨S128x25x128, .f32⟩
  | .hbm, ⟨30, _⟩ => ⟨S128x25x128, .f32⟩
  | .hbm, ⟨31, _⟩ => ⟨S128x25x128, .f32⟩
  | .hbm, ⟨32, _⟩ => ⟨S128x25x16, .f32⟩
  | .hbm, ⟨33, _⟩ => ⟨S128x25x16, .i32⟩
  | .hbm, ⟨34, _⟩ => ⟨S_, .f32⟩
  | .hbm, ⟨35, _⟩ => ⟨S128x25, .f32⟩
  | .hbm, ⟨36, _⟩ => ⟨S_, .f32⟩
  | .hbm, ⟨37, _⟩ => ⟨S128x25, .f32⟩
  | .hbm, ⟨38, _⟩ => ⟨S128x25, .f32⟩
  | .hbm, ⟨39, _⟩ => ⟨S128x25x1, .f32⟩
  | .hbm, ⟨40, _⟩ => ⟨S128x25x16, .f32⟩
  | .hbm, ⟨41, _⟩ => ⟨S128x25x16, .f32⟩
  | .hbm, ⟨42, _⟩ => ⟨S128x25x16, .f32⟩
  | .hbm, ⟨43, _⟩ => ⟨S_, .f32⟩
  | .hbm, ⟨44, _⟩ => ⟨S128x25, .f32⟩
  | .hbm, ⟨45, _⟩ => ⟨S128x25x1, .f32⟩
  | .hbm, ⟨46, _⟩ => ⟨S128x25x16, .f32⟩
  | .hbm, ⟨47, _⟩ => ⟨S128x25x16, .f32⟩
  | .hbm, ⟨48, _⟩ => ⟨S128, .i32⟩
  | .hbm, ⟨49, _⟩ => ⟨S128x1x1, .i32⟩
  | .hbm, ⟨50, _⟩ => ⟨S25, .i32⟩
  | .hbm, ⟨51, _⟩ => ⟨S1x25x1, .i32⟩
  | .hbm, ⟨52, _⟩ => ⟨S_, .f32⟩
  | .hbm, ⟨53, _⟩ => ⟨S128x25x128, .f32⟩
  | .hbm, ⟨54, _⟩ => ⟨S_, .i32⟩
  | .hbm, ⟨55, _⟩ => ⟨S128x1x1, .i32⟩
  | .hbm, ⟨56, _⟩ => ⟨S128x1x1, .i1⟩
  | .hbm, ⟨57, _⟩ => ⟨S_, .i32⟩
  | .hbm, ⟨58, _⟩ => ⟨S128x1x1, .i32⟩
  | .hbm, ⟨59, _⟩ => ⟨S128x1x1, .i32⟩
  | .hbm, ⟨60, _⟩ => ⟨S128x1x1, .i32⟩
  | .hbm, ⟨61, _⟩ => ⟨S_, .i32⟩
  | .hbm, ⟨62, _⟩ => ⟨S1x25x1, .i32⟩
  | .hbm, ⟨63, _⟩ => ⟨S1x25x1, .i1⟩
  | .hbm, ⟨64, _⟩ => ⟨S_, .i32⟩
  | .hbm, ⟨65, _⟩ => ⟨S1x25x1, .i32⟩
  | .hbm, ⟨66, _⟩ => ⟨S1x25x1, .i32⟩
  | .hbm, ⟨67, _⟩ => ⟨S1x25x1, .i32⟩
  | .hbm, ⟨68, _⟩ => ⟨S_, .i32⟩
  | .hbm, ⟨69, _⟩ => ⟨S128x25x16, .i32⟩
  | .hbm, ⟨70, _⟩ => ⟨S128x25x16, .i1⟩
  | .hbm, ⟨71, _⟩ => ⟨S_, .i32⟩
  | .hbm, ⟨72, _⟩ => ⟨S128x25x16, .i32⟩
  | .hbm, ⟨73, _⟩ => ⟨S128x25x16, .i32⟩
  | .hbm, ⟨74, _⟩ => ⟨S128x25x16, .i32⟩
  | .hbm, ⟨75, _⟩ => ⟨S128x25x16, .i32⟩
  | .hbm, ⟨76, _⟩ => ⟨S128x25x16, .i32⟩
  | .hbm, ⟨77, _⟩ => ⟨S128x25x16x1, .i32⟩
  | .hbm, ⟨78, _⟩ => ⟨S128x25x16x1, .i32⟩
  | .hbm, ⟨79, _⟩ => ⟨S128x25x16x1, .i32⟩
  | .hbm, ⟨80, _⟩ => ⟨S128x25x16x3, .i32⟩
  | .hbm, ⟨81, _⟩ => ⟨S128x25x128, .f32⟩
  | _, _ => ⟨S128x256x64x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_values : Ref sig .tc := ⟨.hbm, 32, rfl⟩
abbrev main_indices : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Proof.Consts.lean ====
module

public import Idealize.ShloMosaic.PureOps.Ideal

@[expose] public section

noncomputable section

/-! The constants that the two programs spell, as the extended reals they denote. -/
namespace Cert.Proof.Consts

open Idealize.ShloMosaic

/-- `0.015625` is 1/64. -/
theorem ofBits_inv64 : Ideal.ofBits .f32 0x3C800000#32 = ((1 / 64 : ℝ) : EReal) := by
  simp [Ideal.ofBits, Ideal.ieee, -EReal.coe_mul]; norm_num

/-- `64.0`. -/
theorem ofBits_64 : Ideal.ofBits .f32 0x42800000#32 = ((64 : ℝ) : EReal) := by
  simp [Ideal.ofBits, Ideal.ieee, -EReal.coe_mul]; norm_num

/-- `32.0`. -/
theorem ofBits_32 : Ideal.ofBits .f32 0x42000000#32 = ((32 : ℝ) : EReal) := by
  simp [Ideal.ofBits, Ideal.ieee, -EReal.coe_mul]; norm_num

/-- `-inf`. -/
theorem ofBits_neg_inf : Ideal.ofBits .f32 0xFF800000#32 = ⊥ := by
  simp [Ideal.ofBits, Ideal.ieee]

/-- `+inf`. -/
theorem ofBits_inf : Ideal.ofBits .f32 0x7F800000#32 = ⊤ := by
  simp [Ideal.ofBits, Ideal.ieee]

end Cert.Proof.Consts

end
-- ==== Proof.Row.lean ====
module

public import Idealize.ShloMosaic.PureOps.Ideal
public import Idealize.ShloMosaic.Lib.IdealHost

@[expose] public section

noncomputable section

/-! One row of scores: the `K` greatest by rounds of "take the maximum out", and by a sort; the softmax over them. -/
namespace Cert.Proof.Row

open Idealize.ShloMosaic

variable {ι : Type} [Fintype ι] [DecidableEq ι]

/-- How many scores of the row are greater than the one at `j`. -/
def above (h : ι → EReal) (j : ι) : ℕ := (Finset.univ.filter fun k => h j < h k).card

/-- Two equal scores of the row stand below at least `K` greater ones. -/
def Decided (K : ℕ) (h : ι → EReal) : Prop := ∀ i j, i ≠ j → h i = h j → K ≤ above h i

/-- One round: every entry equal to the row's maximum becomes `⊥`. -/
def takeOut (w : ι → EReal) : ι → EReal := fun j => if w j = Finset.univ.sup w then ⊥ else w j

/-- A greater score has fewer scores above it. -/
theorem above_lt {h : ι → EReal} {j k : ι} (hjk : h j < h k) : above h k < above h j := by
  refine Finset.card_lt_card (Finset.ssubset_iff_of_subset ?_ |>.2 ⟨k, by simpa using hjk, by simp⟩)
  intro l hl
  simp only [Finset.mem_filter, Finset.mem_univ, true_and] at hl ⊢
  exact hjk.trans hl

/-- Where more than `t` scores are above the one at `j`, one of those above has itself at least `t` above it (`t < K`). -/
theorem exists_above {K t : ℕ} {h : ι → EReal} (hd : Decided K h) (ht : t < K) {j : ι} (hj : t < above h j) :
    ∃ k, h j < h k ∧ t ≤ above h k := by
  have hne : (Finset.univ.filter fun k => h j < h k).Nonempty := Finset.card_pos.1 (lt_of_le_of_lt (Nat.zero_le t) hj)
  obtain ⟨k, hk, hmin⟩ := Finset.exists_min_image _ h hne
  simp only [Finset.mem_filter, Finset.mem_univ, true_and] at hk hmin
  refine ⟨k, hk, ?_⟩
  by_contra hlt
  have hsub : (Finset.univ.filter fun l => h j < h l).erase k ⊆ Finset.univ.filter fun l => h k < h l := by
    intro l hl
    simp only [Finset.mem_erase, Finset.mem_filter, Finset.mem_univ, true_and] at hl ⊢
    refine lt_of_le_of_ne (hmin l hl.2) fun e => ?_
    have := hd k l hl.1.symm e
    omega
  have hc := Finset.card_le_card hsub
  rw [Finset.card_erase_of_mem (by simpa using hk)] at hc
  unfold above at hj hlt
  omega

/-- After `t ≤ K` rounds exactly the scores with fewer than `t` above them have been taken out. -/
theorem rounds {K : ℕ} {h : ι → EReal} (hd : Decided K h) :
    ∀ t, t ≤ K → takeOut^[t] h = fun j => if above h j < t then ⊥ else h j := by
  intro t
  induction t with
  | zero => intro _; funext j; simp
  | succ t ih =>
    intro ht
    rw [Function.iterate_succ_apply', ih (by omega)]
    funext j
    obtain ⟨w, hw⟩ : ∃ w : ι → EReal, ∀ k, w k = if above h k < t then ⊥ else h k := ⟨_, fun _ => rfl⟩
    rw [show (fun j => if above h j < t then ⊥ else h j) = w from funext fun k => (hw k).symm]
    unfold takeOut
    rcases lt_trichotomy (above h j) t with hj | hj | hj
    · rw [if_pos (show above h j < t + 1 by omega), hw j, if_pos hj]; exact ite_self _
    · rw [if_pos (show above h j < t + 1 by omega)]
      refine if_pos (le_antisymm (Finset.le_sup (Finset.mem_univ j)) (Finset.sup_le fun k _ => ?_))
      rw [hw j, if_neg (by omega), hw k]
      split
      · exact bot_le
      · next hk => exact not_lt.1 fun hlt => hk (hj ▸ above_lt hlt)
    · rw [if_neg (show ¬ above h j < t + 1 by omega)]
      have hwj : w j = h j := by rw [hw, if_neg (by omega)]
      obtain ⟨k, hk, hkt⟩ := exists_above hd (by omega) hj
      rw [← hwj]
      refine if_neg fun e => ?_
      have := Finset.le_sup (f := w) (Finset.mem_univ k)
      rw [← e, hwj, hw, if_neg (by omega)] at this
      exact absurd hk (not_lt.2 this)

/-- `K` distinct places none of which is below a place outside are the places with fewer than `K` scores above them. -/
theorem mem_range_iff {K : ℕ} {h : ι → EReal} (hd : Decided K h) (σ : Fin K → ι) (hσ : Function.Injective σ)
    (hs : ∀ a j, (∀ b, σ b ≠ j) → ¬ h (σ a) < h j) (j : ι) : (∃ a, σ a = j) ↔ above h j < K := by
  have hcard : (Finset.univ.image σ).card = K := by rw [Finset.card_image_of_injective _ hσ, Finset.card_fin]
  constructor
  · rintro ⟨a, rfl⟩
    by_contra hge
    have hns : ¬ (Finset.univ.filter fun l => h (σ a) < h l) ⊆ (Finset.univ.image σ).erase (σ a) := by
      intro hsub
      have := Finset.card_le_card hsub
      rw [Finset.card_erase_of_mem (Finset.mem_image_of_mem _ (Finset.mem_univ a)), hcard] at this
      have ha := a.isLt
      unfold above at hge
      omega
    obtain ⟨l, hl, hnl⟩ := Finset.not_subset.1 hns
    simp only [Finset.mem_filter, Finset.mem_univ, true_and] at hl
    refine hs a l (fun b hb => hnl ?_) hl
    refine Finset.mem_erase.2 ⟨fun e => ?_, Finset.mem_image.2 ⟨b, Finset.mem_univ b, hb⟩⟩
    rw [e] at hl
    exact lt_irrefl _ hl
  · intro hlt
    by_contra hno
    have hno' : ∀ b, σ b ≠ j := fun b hb => hno ⟨b, hb⟩
    have hsub : Finset.univ.image σ ⊆ Finset.univ.filter fun l => h j < h l := by
      intro l hl
      obtain ⟨b, -, rfl⟩ := Finset.mem_image.1 hl
      simp only [Finset.mem_filter, Finset.mem_univ, true_and]
      refine lt_of_le_of_ne (not_lt.1 (hs b j hno')) fun e => ?_
      have := hd j (σ b) (hno' b).symm e
      omega
    have := Finset.card_le_card hsub
    rw [hcard] at this
    unfold above at hlt
    omega

/-- The exponential is nowhere negative. -/
theorem exp_nonneg (x : EReal) : 0 ≤ Ideal.exp x := by
  induction x with
  | bot => simp
  | top => simp
  | coe r => simpa using Real.exp_nonneg r

/-- The weight of place `j`: its exponential, the row's maximum taken off, if it is among the `K` greatest, else 0. -/
def weight (K : ℕ) (h : ι → EReal) (j : ι) : EReal := if above h j < K then Ideal.exp (h j - Finset.univ.sup h) else 0

/-- The row's result: the softmax over its `K` greatest scores, at their places. -/
def result (K : ℕ) (h : ι → EReal) (j : ι) : EReal := Ideal.div (weight K h j) (∑ k, weight K h k)

/-- The weights as rounds and a mask compute them: an entry that became `⊥` is kept. -/
theorem weight_eq {K : ℕ} {h : ι → EReal} (hd : Decided K h) (j : ι) :
    (if takeOut^[K] h j = ⊥ then Ideal.exp (h j - Finset.univ.sup h) else 0) = weight K h j := by
  rw [rounds hd K le_rfl]
  unfold weight
  by_cases hj : above h j < K
  · simp only [hj, if_true]
  · simp only [hj, if_false]
    by_cases hb : h j = ⊥
    · rw [if_pos hb, hb]; simp
    · rw [if_neg hb]

variable {K : ℕ} {h : ι → EReal} (hd : Decided K h) (hK : 0 < K) (hfin : ∀ j, h j ≠ ⊤) (htwo : ∃ i j : ι, i ≠ j)

include hfin htwo hd hK in
/-- A place of the maximum: the score is there finite and nothing is above it. -/
theorem exists_max : ∃ j, h j = Finset.univ.sup h ∧ above h j = 0 ∧ h j - Finset.univ.sup h = 0 := by
  obtain ⟨i₀, j₀, hne⟩ := htwo
  obtain ⟨j, -, hj⟩ := Finset.exists_max_image Finset.univ h ⟨i₀, Finset.mem_univ _⟩
  have hsup : h j = Finset.univ.sup h :=
    le_antisymm (Finset.le_sup (Finset.mem_univ j)) (Finset.sup_le fun k hk => hj k hk)
  have h0 : above h j = 0 := Finset.card_eq_zero.2 (Finset.filter_eq_empty_iff.2 fun k hk => not_lt.2 (hj k hk))
  have hb : h j ≠ ⊥ := by
    intro e
    have hall : ∀ k, h k = ⊥ := fun k => le_bot_iff.1 (e ▸ hj k (Finset.mem_univ k))
    have := hd i₀ j₀ hne ((hall i₀).trans (hall j₀).symm)
    have h1 : above h i₀ = 0 := Finset.card_eq_zero.2 (Finset.filter_eq_empty_iff.2 fun k _ => by rw [hall, hall]; exact lt_irrefl _)
    omega
  refine ⟨j, hsup, h0, ?_⟩
  rw [← hsup]
  exact EReal.sub_self (hfin j) hb

include hfin htwo hd hK in
/-- The weights do not sum to zero. -/
theorem sum_weight_ne_zero : (∑ k, weight K h k) ≠ 0 := by
  obtain ⟨j, -, h0, hz⟩ := exists_max hd hK hfin htwo
  have hw : weight K h j = 1 := by
    unfold weight
    rw [if_pos (by omega), hz]
    have : ((0 : ℝ) : EReal) = 0 := rfl
    rw [← this, Ideal.exp_coe]; simp
  have hnn : ∀ k ∈ Finset.univ, 0 ≤ weight K h k := fun k _ => by
    unfold weight; split
    · exact exp_nonneg _
    · exact le_rfl
  have := Finset.single_le_sum hnn (Finset.mem_univ j)
  rw [hw] at this
  intro e
  rw [e] at this
  exact absurd this (by simp)

include hfin htwo hd hK in
/-- Outside the `K` greatest the result is 0. -/
theorem result_of_ge {j : ι} (hj : ¬ above h j < K) : result K h j = 0 := by
  unfold result
  rw [weight, if_neg hj]
  exact Ideal.zero_div (sum_weight_ne_zero hd hK hfin htwo)

include hfin htwo hd hK in
/-- The maximum of the `K` greatest is the maximum of the row. -/
theorem sup_top (σ : Fin K → ι) (hσ : Function.Injective σ) (hs : ∀ a j, (∀ b, σ b ≠ j) → ¬ h (σ a) < h j) :
    (Finset.univ.sup fun a => h (σ a)) = Finset.univ.sup h := by
  obtain ⟨j, hj, h0, -⟩ := exists_max hd hK hfin htwo
  obtain ⟨a, rfl⟩ := (mem_range_iff hd σ hσ hs j).2 (by omega)
  exact le_antisymm (Finset.sup_le fun b _ => Finset.le_sup (Finset.mem_univ _))
    (hj ▸ Finset.le_sup (f := fun a => h (σ a)) (Finset.mem_univ a))

/-- The weights' sum over the row is the exponentials' sum over the `K` greatest. -/
theorem sum_top (hd : Decided K h) (σ : Fin K → ι) (hσ : Function.Injective σ)
    (hs : ∀ a j, (∀ b, σ b ≠ j) → ¬ h (σ a) < h j) :
    (∑ a, Ideal.exp (h (σ a) - Finset.univ.sup h)) = ∑ k, weight K h k := by
  have himg : (Finset.univ.filter fun k => above h k < K) = Finset.univ.image σ := by
    ext k
    simp only [Finset.mem_filter, Finset.mem_univ, true_and, Finset.mem_image]
    exact (mem_range_iff hd σ hσ hs k).symm
  unfold weight
  rw [← Finset.sum_filter, himg, Finset.sum_image fun a _ b _ e => hσ e]

include hfin htwo hd hK in
/-- The softmax over the sorted `K` greatest, at the place of the `a`-th. -/
theorem softmax_top (σ : Fin K → ι) (hσ : Function.Injective σ) (hs : ∀ a j, (∀ b, σ b ≠ j) → ¬ h (σ a) < h j) (a : Fin K) :
    Ideal.div (Ideal.exp (h (σ a) - Finset.univ.sup fun b => h (σ b)))
        (∑ c, Ideal.exp (h (σ c) - Finset.univ.sup fun b => h (σ b))) = result K h (σ a) := by
  rw [sup_top hd hK hfin htwo σ hσ hs, sum_top hd σ hσ hs]
  unfold result
  rw [weight, if_pos ((mem_range_iff hd σ hσ hs _).1 ⟨a, rfl⟩)]

end Cert.Proof.Row

end
-- ==== Proof.Spec.lean ====
module

public import proofs.«01_k».proof.Proof.Consts
public import proofs.«01_k».proof.Proof.Row
public import Idealize.ShloMosaic.Lib.Pointwise.Index

@[expose] public section

noncomputable section

/-! The scores of one node, from its 64 feature vectors: what both programs compute before the top-k. -/
namespace Cert.Proof.Spec

open Idealize.ShloMosaic

variable (X : Fin 64 → Fin 256 → EReal) (W : Fin 32 → Fin 256 → EReal) (b : Fin 32 → EReal) (kp : Fin 32 → Fin 128 → EReal)

/-- The projected query's coordinate `e`, its mean over the 64 times taken before the bias is added. -/
def pooled (e : Fin 32) : EReal := (∑ t, ∑ k, X t k * W e k) * ((1 / 64 : ℝ) : EReal) + b e

/-- The query divided by its norm, the norm clamped from below. -/
def query (e : Fin 32) : EReal :=
  Ideal.div (pooled X W b e) (max (Ideal.sqrt (∑ o, pooled X W b o * pooled X W b o)) (Ideal.ofBits .f32 0x2B8CBCCC#32))

/-- The query's similarity to key prototype `j`. -/
def sim (j : Fin 128) : EReal := ∑ e, query X W b e * kp e j

/-- The similarity times `32 ^ (-1/2)`. -/
def score (j : Fin 128) : EReal := sim X W b kp j * (((Real.sqrt 32)⁻¹ : ℝ) : EReal)

/-- The mean of projections that each carry the bias is the mean of the projections with the bias added once. -/
theorem mean_bias (p : Fin 64 → EReal) (c : EReal) :
    Ideal.div (∑ t, (p t + c)) ((64 : ℝ) : EReal) = (∑ t, p t) * ((1 / 64 : ℝ) : EReal) + c := by
  rw [Ideal.div_coe (by norm_num), Finset.sum_add_distrib, Finset.sum_const, Finset.card_univ, Fintype.card_fin,
    mul_comm, EReal.left_distrib_of_nonneg_of_ne_top (by exact_mod_cast (by norm_num : (0 : ℝ) ≤ 1 / 64)) (EReal.coe_ne_top _), mul_comm _ (∑ t, p t)]
  congr 1
  rw [EReal.nsmul_eq_mul, ← mul_assoc, show ((64 : ℕ) : EReal) = ((64 : ℝ) : EReal) from rfl, ← EReal.coe_mul,
    show (1 / 64 * 64 : ℝ) = 1 by norm_num, EReal.coe_one, one_mul]

/-- `1 / √32`, as the reference spells the scale, is the real `(√32)⁻¹`. -/
theorem one_div_sqrt : Ideal.div 1 (Ideal.sqrt ((32 : ℝ) : EReal)) = (((Real.sqrt 32)⁻¹ : ℝ) : EReal) := by
  rw [Ideal.sqrt_coe, if_neg (by norm_num), Ideal.div_coe (Real.sqrt_ne_zero'.2 (by norm_num)), one_mul, one_div]

/-- Scaling keeps the order of the similarities. -/
theorem score_lt_iff (x y : EReal) :
    x * (((Real.sqrt 32)⁻¹ : ℝ) : EReal) < y * (((Real.sqrt 32)⁻¹ : ℝ) : EReal) ↔ x < y := by
  have hpos : (0 : ℝ) < Real.sqrt 32 := Real.sqrt_pos.2 (by norm_num)
  exact (EReal.strictMono_div_right_of_pos (b := ((Real.sqrt 32 : ℝ) : EReal)) (by exact_mod_cast hpos)
    (EReal.coe_ne_top _)).lt_iff_lt

/-- Scaling keeps a decided top `K`. -/
theorem decided_scale {ι : Type} [Fintype ι] [DecidableEq ι] {K : ℕ} {h : ι → EReal} (hd : Row.Decided K h) :
    Row.Decided K fun j => h j * (((Real.sqrt 32)⁻¹ : ℝ) : EReal) := by
  intro i j hij he
  have hle := hd i j hij (le_antisymm (not_lt.1 fun hlt => he.symm.not_lt ((score_lt_iff _ _).2 hlt))
    (not_lt.1 fun hlt => he.not_lt ((score_lt_iff _ _).2 hlt)))
  unfold Row.above at hle ⊢
  simp only [score_lt_iff]
  exact hle

/-- A score is `+∞` only where the similarity is. -/
theorem scale_ne_top {x : EReal} (hx : x ≠ ⊤) : x * (((Real.sqrt 32)⁻¹ : ℝ) : EReal) ≠ ⊤ :=
  ((score_lt_iff x ⊤).2 (lt_top_iff_ne_top.2 hx)).ne_top

/-- The similarities of node `v` of batch `n`, from the four argument arrays. -/
def simAt (X : (⟨4, ![128, 256, 64, 25]⟩ : Shape).Idx → EReal) (W : (⟨2, ![32, 256]⟩ : Shape).Idx → EReal)
    (b : (⟨1, ![32]⟩ : Shape).Idx → EReal) (kp : (⟨2, ![32, 128]⟩ : Shape).Idx → EReal) (n : Fin 128) (v : Fin 25) : Fin 128 → EReal :=
  sim (fun t k => X (ix4 n k t v)) (fun e k => W (ix2 e k)) (fun e => b (ix1 e)) fun e k => kp (ix2 e k)

/-- The scores of node `v` of batch `n`, from the four argument arrays. -/
def scoreAt (X : (⟨4, ![128, 256, 64, 25]⟩ : Shape).Idx → EReal) (W : (⟨2, ![32, 256]⟩ : Shape).Idx → EReal)
    (b : (⟨1, ![32]⟩ : Shape).Idx → EReal) (kp : (⟨2, ![32, 128]⟩ : Shape).Idx → EReal) (n : Fin 128) (v : Fin 25) (j : Fin 128) : EReal :=
  simAt X W b kp n v j * (((Real.sqrt 32)⁻¹ : ℝ) : EReal)

end Cert.Proof.Spec

end
-- ==== Proof.Block.lean ====
module

public import proofs.«01_k».proof.Proof.Gen.KernelIdeal.Frame
public import proofs.«01_k».proof.Proof.Spec
public import Idealize.ShloMosaic.Lib.Pointwise
public import Idealize.ShloMosaic.PureOps.IdealRules

@[expose] public section

set_option maxRecDepth 16384

noncomputable section

/-! What one grid step of the kernel writes into its block of the output, entry by entry. -/
namespace Cert.Proof.Block

open Idealize.ShloMosaic Cert.KernelIdeal Cert.KernelIdeal.Gen

/-- The kernel's scale is the real `(√32)⁻¹`. -/
theorem scale_eq : Named.named (F := Ideal) Cert.KernelIdeal.κ "scale" (φ := .f32) 0x3E3504F3#32 = (((Real.sqrt 32)⁻¹ : ℝ) : EReal) :=
  IdealRules.named_const.ideal_named_scalar _ _ _ _ rfl

/-- The kernel's mask is `-∞`. -/
theorem mask_eq : Named.named (F := Ideal) Cert.KernelIdeal.κ "mask" (φ := .f32) 0xF149F2CA#32 = (⊥ : EReal) :=
  IdealRules.named_const.ideal_named_scalar _ _ _ _ rfl

/-- One slice's scores, at node `v` and prototype `j`. -/
theorem pay2_apply (x : Vec Ideal S1x25x64x256 .f32) (w : Vec Ideal S32x256 .f32) (b : Vec Ideal S1x32 .f32)
    (kp : Vec Ideal S32x128 .f32) (v : Fin 25) (j : Fin 128) :
    k0_pay2 x w b kp (ix3 0 v j)
      = Spec.score (fun t k => x (ix4 0 v t k)) (fun e k => w (ix2 e k)) (fun e => b (ix2 0 e)) (fun e k => kp (ix2 e k)) j := by
  pointwise [k0_pay2]
  simp only [scale_eq, Consts.ofBits_inv64]
  rfl

/-- The scores of batch `a` of the block. -/
def slice (x : Vec Ideal S16x25x64x256 .f32) (w : Vec Ideal S32x256 .f32) (b : Vec Ideal S1x32 .f32) (kp : Vec Ideal S32x128 .f32)
    (a : Fin 16) : FVec Ideal S1x25x128 .f32 :=
  k0_pay2 (fun i => x (ix4 a (i 1) (i 2) (i 3))) w b kp

/-- Sixteen slices, stacked. -/
def stack (s : Fin 16 → FVec Ideal S1x25x128 .f32) : FVec Ideal S16x25x128 .f32 :=
  concatenate S16x25x128 0 [⟨S1x25x128, s 0⟩, ⟨S1x25x128, s 1⟩, ⟨S1x25x128, s 2⟩, ⟨S1x25x128, s 3⟩, ⟨S1x25x128, s 4⟩,
    ⟨S1x25x128, s 5⟩, ⟨S1x25x128, s 6⟩, ⟨S1x25x128, s 7⟩, ⟨S1x25x128, s 8⟩, ⟨S1x25x128, s 9⟩, ⟨S1x25x128, s 10⟩,
    ⟨S1x25x128, s 11⟩, ⟨S1x25x128, s 12⟩, ⟨S1x25x128, s 13⟩, ⟨S1x25x128, s 14⟩, ⟨S1x25x128, s 15⟩]
    concatenates_S1x25x128_S1x25x128_S1x25x128_S1x25x128_S1x25x128_S1x25x128_S1x25x128_S1x25x128_S1x25x128_S1x25x128_S1x25x128_S1x25x128_S1x25x128_S1x25x128_S1x25x128_S1x25x128_S16x25x128_d0

/-- Batch `a` of the stack is slice `a`. -/
theorem stack_apply (s : Fin 16 → FVec Ideal S1x25x128 .f32) (a : Fin 16) (v : Fin 25) (j : Fin 128) :
    stack s (ix3 a v j) = s a (ix3 0 v j) := by
  fin_cases a <;> pointwise [stack]

/-- A load of one batch of the block. -/
theorem ld_batch (x : Vec Ideal S16x25x64x256 .f32) (a : Fin 16)
    (inb : ∀ d, (![a.val, 0, 0, 0] : Fin 4 → ℕ) d + S1x25x64x256.size d ≤ S16x25x64x256.size d) :
    View.ld x (Rect.unit (s := S16x25x64x256) ![a.val, 0, 0, 0] S1x25x64x256.size inb) = fun i => x (ix4 a (i 1) (i 2) (i 3)) := by
  funext i
  idx_vars i
  pointwise

/-- The block of scores. -/
def scores (x : Vec Ideal S16x25x64x256 .f32) (w : Vec Ideal S32x256 .f32) (b : Vec Ideal S1x32 .f32) (kp : Vec Ideal S32x128 .f32) :
    FVec Ideal S16x25x128 .f32 :=
  stack (slice x w b kp)

/-- The block of scores, at one entry. -/
theorem scores_apply (x : Vec Ideal S16x25x64x256 .f32) (w : Vec Ideal S32x256 .f32) (b : Vec Ideal S1x32 .f32)
    (kp : Vec Ideal S32x128 .f32) (a : Fin 16) (v : Fin 25) (j : Fin 128) :
    scores x w b kp (ix3 a v j)
      = Spec.score (fun t k => x (ix4 a v t k)) (fun e k => w (ix2 e k)) (fun e => b (ix2 0 e)) (fun e k => kp (ix2 e k)) j :=
  (stack_apply _ a v j).trans (pay2_apply _ w b kp v j)

/-- The maximum of each row, as a column. -/
def rowMax (w : FVec Ideal S16x25x128 .f32) : FVec Ideal S16x25x1 .f32 :=
  shapeCast S16x25x1 (multiReduction .maximumf [2] S16x25 w 0xFF800000#32 reduces_S16x25x128_S16x25 (.inl rfl) rfl)
    shapeCasts_S16x25_S16x25x1

/-- One round on a block of scores: in each row the greatest entries are replaced by the mask. -/
def round (w : FVec Ideal S16x25x128 .f32) : FVec Ideal S16x25x128 .f32 :=
  select (cmpf .oeq w (broadcastTo S16x25x128 (rowMax w) broadcasts_S16x25x1_S16x25x128))
    (broadcast S16x25x128 (Named.named κ "mask" 0xF149F2CA#32)) w

/-- The printed operations of a row maximum are `rowMax`. -/
theorem max_fold (w : FVec Ideal S16x25x128 .f32) (hφ : FTy.f32 = .f32 ∨ FTy.f32 = .bf16) (hacc : (0xFF800000#32 : BitVec 32) = 0xFF800000#32) :
    shapeCast S16x25x1 (multiReduction .maximumf [2] S16x25 w 0xFF800000#32 reduces_S16x25x128_S16x25 hφ hacc)
      shapeCasts_S16x25_S16x25x1 = rowMax w := rfl

/-- The printed operations of a round are `round`. -/
theorem round_fold (w : FVec Ideal S16x25x128 .f32) :
    select (cmpf .oeq w (broadcastTo S16x25x128 (rowMax w) broadcasts_S16x25x1_S16x25x128))
      (broadcast S16x25x128 (Named.named κ "mask" 0xF149F2CA#32)) w = round w := rfl

/-- A round at one entry is `Row.takeOut` of the entry's row. -/
theorem round_apply (w : FVec Ideal S16x25x128 .f32) (a : Fin 16) (v : Fin 25) (j : Fin 128) :
    round w (ix3 a v j) = Row.takeOut (fun k => w (ix3 a v k)) j := by
  pointwise [round, rowMax]
  rw [mask_eq, Consts.ofBits_neg_inf]
  rfl

/-- The exponentials at the entries that the mask has replaced, `0` elsewhere. -/
def kept (h w : FVec Ideal S16x25x128 .f32) : FVec Ideal S16x25x128 .f32 :=
  select (cmpf .oeq w (broadcast S16x25x128 (Named.named κ "mask" 0xF149F2CA#32)))
    (exp (subf h (broadcastTo S16x25x128 (rowMax h) broadcasts_S16x25x1_S16x25x128)))
    (broadcast S16x25x128 (Scalar.ofBits .f32 0x00000000#32))

/-- The block that the step stores, from the block of scores: sixteen rounds, the exponentials, the division by the row sums. -/
def selected (h : FVec Ideal S16x25x128 .f32) : FVec Ideal S16x25x128 .f32 := k0_pay1 (kept h (round^[16] h))

/-- Rounds 4 to 11 of the printed kernel. -/
theorem pay36_eq (w : FVec Ideal S16x25x128 .f32) :
    k0_pay36 w (cmpf .oeq w (broadcastTo S16x25x128 (rowMax w) broadcasts_S16x25x1_S16x25x128)) (Named.named κ "mask" 0xF149F2CA#32)
      = round^[8] w := by
  unfold k0_pay36
  dsimp only
  repeat rw [max_fold]
  simp only [round_fold, Function.iterate_succ, Function.iterate_zero, Function.comp, id]

/-- Rounds 12 to 16 and what follows them; `m` is the row maxima of round 12. -/
theorem pay38_eq (h w : FVec Ideal S16x25x128 .f32) (m : FVec Ideal S16x25 .f32)
    (hm : shapeCast S16x25x1 m shapeCasts_S16x25_S16x25x1 = rowMax w) :
    k0_pay38 h (rowMax h) w m = kept h (round^[5] w) := by
  unfold k0_pay38
  rw [hm]
  dsimp only
  repeat rw [max_fold]
  simp only [round_fold, Function.iterate_succ, Function.iterate_zero, Function.comp, id, kept]

theorem zero2 : (![0, 0] : Fin 2 → ℕ) = fun _ => 0 := by decide

theorem zero3 : (![0, 0, 0] : Fin 3 → ℕ) = fun _ => 0 := by decide

section Slices

variable (x : Vec Ideal S16x25x64x256 .f32) (w : Vec Ideal S32x256 .f32) (b : Vec Ideal S1x32 .f32) (kp : Vec Ideal S32x128 .f32)

/-- The scores of a batch, its parameters loaded whole. -/
theorem slice_loaded (a : Fin 16) (inb) :
    k0_pay2 (View.ld x (Rect.unit (s := S16x25x64x256) ![a.val, 0, 0, 0] S1x25x64x256.size inb)) (View.ld w r0_1) (View.ld b r0_2)
      (View.ld kp r0_3) = slice x w b kp a := by
  rw [View.ld_unit_zero zero2, View.ld_unit_zero zero2, View.ld_unit_zero zero2, ld_batch]
  rfl

/-- The sixteen values that the kernel stacks are the sixteen slices; the last is still to be completed by the stacking. -/
theorem stacked :
    k0_pay32 (k0_pay39 x w b kp) (k0_pay40 x w b kp) (k0_pay41 x w b kp) (k0_pay42 x w b kp) (k0_pay43 x w b kp)
      (k0_pay44 x w b kp) (k0_pay45 x w b kp) (k0_pay46 x w b kp) (k0_pay47 x w b kp) (k0_pay48 x w b kp) (k0_pay49 x w b kp)
      (k0_pay50 x w b kp) (k0_pay51 x w b kp) (k0_pay52 x w b kp) (k0_pay53 x w b kp) (k0_pay54 x w b kp)
      (View.ld b r0_2) (View.ld kp r0_3) = scores x w b kp := by
  have h0 : k0_pay39 x w b kp = slice x w b kp 0 := slice_loaded x w b kp 0 _
  have h1 : k0_pay40 x w b kp = slice x w b kp 1 := slice_loaded x w b kp 1 _
  have h2 : k0_pay41 x w b kp = slice x w b kp 2 := slice_loaded x w b kp 2 _
  have h3 : k0_pay42 x w b kp = slice x w b kp 3 := slice_loaded x w b kp 3 _
  have h4 : k0_pay43 x w b kp = slice x w b kp 4 := slice_loaded x w b kp 4 _
  have h5 : k0_pay44 x w b kp = slice x w b kp 5 := slice_loaded x w b kp 5 _
  have h6 : k0_pay45 x w b kp = slice x w b kp 6 := slice_loaded x w b kp 6 _
  have h7 : k0_pay46 x w b kp = slice x w b kp 7 := slice_loaded x w b kp 7 _
  have h8 : k0_pay47 x w b kp = slice x w b kp 8 := slice_loaded x w b kp 8 _
  have h9 : k0_pay48 x w b kp = slice x w b kp 9 := slice_loaded x w b kp 9 _
  have h10 : k0_pay49 x w b kp = slice x w b kp 10 := slice_loaded x w b kp 10 _
  have h11 : k0_pay50 x w b kp = slice x w b kp 11 := slice_loaded x w b kp 11 _
  have h12 : k0_pay51 x w b kp = slice x w b kp 12 := slice_loaded x w b kp 12 _
  have h13 : k0_pay52 x w b kp = slice x w b kp 13 := slice_loaded x w b kp 13 _
  have h14 : k0_pay53 x w b kp = slice x w b kp 14 := slice_loaded x w b kp 14 _
  rw [h0, h1, h2, h3, h4, h5, h6, h7, h8, h9, h10, h11, h12, h13, h14]
  have h15 := slice_loaded x w b kp 15 inb_S16x25x64x256_S1x25x64x256_15_0_0_0
  unfold scores stack
  rw [← h15]
  rfl

end Slices

/-- What the step stores is the selection from the block of scores. -/
theorem out_eq (x : Vec Ideal S16x25x64x256 .f32) (w : Vec Ideal S32x256 .f32) (b : Vec Ideal S1x32 .f32) (kp : Vec Ideal S32x128 .f32) :
    out0_4 x w b kp = selected (scores x w b kp) := by
  unfold out0_4
  rw [View.canon_unit_zero zero3]
  unfold k0_pay56 k0_pay55 k0_pay35 k0_pay34 k0_pay33
  simp only [stacked]
  repeat rw [max_fold]
  simp only [round_fold, pay36_eq]
  rw [pay38_eq _ _ _ (by unfold k0_pay37; dsimp only; rw [max_fold, pay36_eq])]
  simp only [selected, Function.iterate_succ, Function.iterate_zero, Function.comp, id]

/-- Any number of rounds at one entry, on the entry's row. -/
theorem rounds_apply (h : FVec Ideal S16x25x128 .f32) (n : ℕ) (a : Fin 16) (v : Fin 25) (j : Fin 128) :
    (round^[n] h) (ix3 a v j) = (Row.takeOut^[n] fun k => h (ix3 a v k)) j := by
  induction n generalizing j with
  | zero => rfl
  | succ n ih =>
    rw [Function.iterate_succ_apply', Function.iterate_succ_apply', round_apply]
    exact congrArg (fun r => Row.takeOut r j) (funext ih)

/-- What the kernel puts at entry `j` of a row with scores `h`: the exponential where sixteen rounds have taken the entry out and `0`
elsewhere, divided by their sum. -/
def rowOut (h : Fin 128 → EReal) (j : Fin 128) : EReal :=
  Ideal.div (if (Row.takeOut^[16] h) j = ⊥ then Ideal.exp (h j - Finset.univ.sup h) else 0)
    (∑ k, if (Row.takeOut^[16] h) k = ⊥ then Ideal.exp (h k - Finset.univ.sup h) else 0)

/-- The kept exponentials, at one entry. -/
theorem kept_apply (h w : FVec Ideal S16x25x128 .f32) (a : Fin 16) (v : Fin 25) (j : Fin 128) :
    kept h w (ix3 a v j)
      = if w (ix3 a v j) = ⊥ then Ideal.exp (h (ix3 a v j) - Finset.univ.sup fun k => h (ix3 a v k)) else 0 := by
  pointwise [kept, rowMax]
  simp only [mask_eq, Consts.ofBits_neg_inf]
  rfl

/-- The stored block, at one entry. -/
theorem selected_apply (h : FVec Ideal S16x25x128 .f32) (a : Fin 16) (v : Fin 25) (j : Fin 128) :
    selected h (ix3 a v j) = rowOut (fun k => h (ix3 a v k)) j := by
  pointwise [selected, k0_pay1]
  simp only [kept_apply, rounds_apply]
  rfl

/-- The step's output block at one entry, from the step's input blocks. -/
theorem out_apply (x : Vec Ideal S16x25x64x256 .f32) (w : Vec Ideal S32x256 .f32) (b : Vec Ideal S1x32 .f32)
    (kp : Vec Ideal S32x128 .f32) (a : Fin 16) (v : Fin 25) (j : Fin 128) :
    out0_4 x w b kp (ix3 a v j)
      = rowOut (Spec.score (fun t k => x (ix4 a v t k)) (fun e k => w (ix2 e k)) (fun e => b (ix2 0 e))
          fun e k => kp (ix2 e k)) j := by
  rw [out_eq, selected_apply]
  exact congrArg (fun r => rowOut r j) (funext fun k => scores_apply x w b kp a v k)

/-- Where the scores decide the sixteen greatest, the kernel's row is their softmax, `0` elsewhere. -/
theorem rowOut_eq {h : Fin 128 → EReal} (hd : Row.Decided 16 h) (j : Fin 128) : rowOut h j = Row.result 16 h j := by
  unfold rowOut Row.result
  simp only [Row.weight_eq hd]

end Cert.Proof.Block

end
-- ==== Proof.KernelValue.lean ====
module

public import proofs.«01_k».proof.Proof.Gen.KernelIdeal.Value
public import proofs.«01_k».proof.Proof.Block
public import Idealize.ShloMosaic.Lib.Pipeline.Value

@[expose] public section

set_option maxRecDepth 16384

noncomputable section

/-! The kernel's result array after the run. -/
namespace Cert.Proof.KernelValue

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The launch reads the features with the axes of channels and nodes exchanged. -/
theorem V_features (c : Dev nD) (n : Fin 128) (v : Fin 25) (t : Fin 64) (k : Fin 256) :
    (V m c main_v0 : FVec Ideal S128x25x64x256 .f32) (ix4 n v t k)
      = (m ((c : Thread nD τ).loc main_arg0) : FVec Ideal S128x256x64x25 .f32) (ix4 n k t v) := by
  have h : V m c main_v0 = transpose S128x25x64x256 [0, 3, 2, 1] (m ((c : Thread nD τ).loc main_arg0))
      transposes_S128x256x64x25_S128x25x64x256_0_3_2_1 := by
    show StableHlo.after hostOps0 _ (Proc.devRef .tc main_v0) = _
    after_results
  rw [h]
  pointwise

/-- The launch reads the bias as a row. -/
theorem V_bias (c : Dev nD) (e : Fin 32) :
    (V m c main_v1 : FVec Ideal S1x32 .f32) (ix2 0 e) = (m ((c : Thread nD τ).loc main_arg2) : FVec Ideal S32 .f32) (ix1 e) := by
  have h : V m c main_v1 = shapeCast S1x32 (m ((c : Thread nD τ).loc main_arg2)) shapeCasts_S32_S1x32 := by
    show StableHlo.after hostOps0 _ (Proc.devRef .tc main_v1) = _
    after_results
    rfl
  rw [h]
  pointwise

/-- The windows' block indices: the features' and the result's step along the batches, the parameters' stay. -/
theorem index_eq (t : Fin cfg0.N) :
    (win0_0.index t 0 = t.val ∧ win0_0.index t 1 = 0 ∧ win0_0.index t 2 = 0 ∧ win0_0.index t 3 = 0)
      ∧ (win0_1.index t 0 = 0 ∧ win0_1.index t 1 = 0) ∧ (win0_2.index t 0 = 0 ∧ win0_2.index t 1 = 0)
      ∧ (win0_3.index t 0 = 0 ∧ win0_3.index t 1 = 0)
      ∧ (win0_4.index t 0 = t.val ∧ win0_4.index t 1 = 0 ∧ win0_4.index t 2 = 0) := by
  revert t
  decide +kernel

/-- The batch that block row `a` of step `t` holds. -/
def batch (t : Fin cfg0.N) (a : Fin 16) : Fin 128 :=
  ⟨t.val * 16 + a.val, by have := t.isLt; have : cfg0.N = 8 := N_0; omega⟩

/-- The features' block at step `t`. -/
theorem features_block (c : Dev nD) (t : Fin cfg0.N) (a : Fin 16) (v : Fin 25) (s : Fin 64) (k : Fin 256) :
    (iblk m c 0 t : FVec Ideal S16x25x64x256 .f32) (ix4 a v s k)
      = (m ((c : Thread nD τ).loc main_arg0) : FVec Ideal S128x256x64x25 .f32) (ix4 (batch t a) k s v) := by
  refine Eq.trans ?_ (V_features m c (batch t a) v s k)
  obtain ⟨⟨h0, h1, h2, h3⟩, -⟩ := index_eq t
  unfold iblk
  rw [View.read_apply]
  show V m c main_v0 _ = V m c main_v0 _
  unfold V
  congr 1
  funext d
  apply Fin.ext
  match d with
  | ⟨0, _⟩ => show win0_0.index t 0 * 16 + 1 * a.val = t.val * 16 + a.val; rw [h0]; omega
  | ⟨1, _⟩ => show win0_0.index t 1 * 25 + 1 * v.val = v.val; rw [h1]; omega
  | ⟨2, _⟩ => show win0_0.index t 2 * 64 + 1 * s.val = s.val; rw [h2]; omega
  | ⟨3, _⟩ => show win0_0.index t 3 * 256 + 1 * k.val = k.val; rw [h3]; omega

/-- The weights' block is the whole array. -/
theorem weights_block (c : Dev nD) (t : Fin cfg0.N) (e : Fin 32) (k : Fin 256) :
    (iblk m c 1 t : FVec Ideal S32x256 .f32) (ix2 e k) = (m ((c : Thread nD τ).loc main_arg1) : FVec Ideal S32x256 .f32) (ix2 e k) := by
  refine Eq.trans ?_ (congrFun (V_main_arg1 m c) (ix2 e k))
  obtain ⟨-, ⟨h0, h1⟩, -⟩ := index_eq t
  unfold iblk
  rw [View.read_apply]
  show V m c main_arg1 _ = V m c main_arg1 _
  unfold V
  congr 1
  funext d
  apply Fin.ext
  match d with
  | ⟨0, _⟩ => show win0_1.index t 0 * 32 + 1 * e.val = e.val; rw [h0]; omega
  | ⟨1, _⟩ => show win0_1.index t 1 * 256 + 1 * k.val = k.val; rw [h1]; omega

/-- The bias's block is the whole row. -/
theorem bias_block (c : Dev nD) (t : Fin cfg0.N) (e : Fin 32) :
    (iblk m c 2 t : FVec Ideal S1x32 .f32) (ix2 0 e) = (m ((c : Thread nD τ).loc main_arg2) : FVec Ideal S32 .f32) (ix1 e) := by
  refine Eq.trans ?_ (V_bias m c e)
  obtain ⟨-, -, ⟨h0, h1⟩, -⟩ := index_eq t
  unfold iblk
  rw [View.read_apply]
  show V m c main_v1 _ = V m c main_v1 _
  unfold V
  congr 1
  funext d
  apply Fin.ext
  match d with
  | ⟨0, _⟩ => show win0_2.index t 0 * 1 + 1 * 0 = 0; rw [h0]
  | ⟨1, _⟩ => show win0_2.index t 1 * 32 + 1 * e.val = e.val; rw [h1]; omega

/-- The key prototypes' block is the whole array. -/
theorem prototypes_block (c : Dev nD) (t : Fin cfg0.N) (e : Fin 32) (k : Fin 128) :
    (iblk m c 3 t : FVec Ideal S32x128 .f32) (ix2 e k) = (m ((c : Thread nD τ).loc main_arg3) : FVec Ideal S32x128 .f32) (ix2 e k) := by
  refine Eq.trans ?_ (congrFun (V_main_arg3 m c) (ix2 e k))
  obtain ⟨-, -, -, ⟨h0, h1⟩, -⟩ := index_eq t
  unfold iblk
  rw [View.read_apply]
  show V m c main_arg3 _ = V m c main_arg3 _
  unfold V
  congr 1
  funext d
  apply Fin.ext
  match d with
  | ⟨0, _⟩ => show win0_3.index t 0 * 32 + 1 * e.val = e.val; rw [h0]; omega
  | ⟨1, _⟩ => show win0_3.index t 1 * 128 + 1 * k.val = k.val; rw [h1]; omega

/-- The scores of node `v` of batch `n` at the launch's arguments. -/
def scoreAt (c : Dev nD) (n : Fin 128) (v : Fin 25) : Fin 128 → EReal :=
  Spec.scoreAt (m ((c : Thread nD τ).loc main_arg0)) (m ((c : Thread nD τ).loc main_arg1)) (m ((c : Thread nD τ).loc main_arg2))
    (m ((c : Thread nD τ).loc main_arg3)) n v

/-- The kernel's result array. -/
def result (c : Dev nD) : Buf (Elt Ideal) ((c : Thread nD τ).loc main_v2) :=
  fun (i : S128x25x128.Idx) => (Block.rowOut (scoreAt m c (i 0) (i 1)) (i 2) : EReal)

/-- What step `t` writes back is its block of the result. -/
theorem flushed_eq (c : Dev nD) (t : Fin cfg0.N) :
    (dats m 0 c).flushed 4 t = ((cfg0.win 4).blk t).view.read (Elt Ideal) (result m c) := by
  rw [Value.flushed4]
  obtain ⟨-, -, -, -, h0, h1, h2⟩ := index_eq t
  funext i
  obtain ⟨a, v, j, rfl⟩ : ∃ a v j, i = (ix3 a v j : S16x25x128.Idx) := ⟨i 0, i 1, i 2, by
    funext d; match d with | ⟨0, _⟩ => rfl | ⟨1, _⟩ => rfl | ⟨2, _⟩ => rfl⟩
  rw [View.read_apply]
  show out0_4 _ _ _ _ (ix3 a v j) = _
  rw [Block.out_apply]
  simp only [features_block, weights_block, bias_block, prototypes_block]
  have hi : ((cfg0.win 4).blk t).view.emb (ix3 a v j) = (ix3 (batch t a) v j : S128x25x128.Idx) := by
    funext d
    apply Fin.ext
    match d with
    | ⟨0, _⟩ => show win0_4.index t 0 * 16 + 1 * a.val = t.val * 16 + a.val; rw [h0]; omega
    | ⟨1, _⟩ => show win0_4.index t 1 * 25 + 1 * v.val = v.val; rw [h1]; omega
    | ⟨2, _⟩ => show win0_4.index t 2 * 128 + 1 * j.val = j.val; rw [h2]; omega
  exact (congrArg (result m c) hi).symm

/-- An index of the result is in step `t`'s block when its batch is one of the step's sixteen. -/
theorem mem_blk (t : Fin cfg0.N) (i : S128x25x128.Idx) (h : t.val * 16 ≤ (i 0).val ∧ (i 0).val < t.val * 16 + 16) :
    i ∈ ((cfg0.win 4).blk t).view.set := by
  show i ∈ ((View.whole main_v2).slice (win0_4.rect t)).set
  rw [View.set_slice_whole, Rect.mem_set_unit]
  obtain ⟨-, -, -, -, h0, h1, h2⟩ := index_eq t
  have l1 : (i 1).val < 25 := (i 1).isLt
  have l2 : (i 2).val < 128 := (i 2).isLt
  intro d
  match d with
  | ⟨0, _⟩ => show win0_4.index t 0 * 16 ≤ (i 0).val ∧ (i 0).val < win0_4.index t 0 * 16 + 16; rw [h0]; exact h
  | ⟨1, _⟩ => show win0_4.index t 1 * 25 ≤ (i 1).val ∧ (i 1).val < win0_4.index t 1 * 25 + 25; rw [h1]; omega
  | ⟨2, _⟩ => show win0_4.index t 2 * 128 ≤ (i 2).val ∧ (i 2).val < win0_4.index t 2 * 128 + 128; rw [h2]; omega

/-- Every index of the result is in the block of a step that writes back. -/
theorem cover (i : S128x25x128.Idx) : ∃ t : Fin cfg0.N, (cfg0.win 4).flush t = true ∧ i ∈ ((cfg0.win 4).blk t).view.set := by
  have h0 : (i 0).val < 128 := (i 0).isLt
  have hN : cfg0.N = 8 := N_0
  refine ⟨⟨(i 0).val / 16, by omega⟩, flush0_4 _, mem_blk _ i ?_⟩
  dsimp only
  omega

/-- The result array after the run. -/
theorem final (c : Dev nD) : (dats m 0 c).arrAt 4 cfg0.N = result m c :=
  (dats m 0 c).arrAt_eq_of_cover 4 (result m c) (fun t _ => flushed_eq m c t) cover

end Cert.Proof.KernelValue

end
-- ==== Proof.TopK.lean ====
module

public import Idealize.ShloMosaic.Lib.SortFacts
public import Idealize.ShloMosaic.Lib.Pointwise

@[expose] public section

noncomputable section

/-! The host's top-k of an array of three axes, along the last, read at an index. -/
namespace Cert.Proof.TopK

open Idealize.ShloMosaic

/-- The places of a row, the greatest first and equal ones in the order of their places. -/
def order {N : ℕ} (h : Fin N → EReal) : Fin N → Fin N :=
  sortedFrom fun k k' => FloatOps.cmpfTotal (F := Ideal) (φ := .f32) .gt (h k) (h k') == 1#1

/-- The place of a row's entry number `a` from the top. -/
def chosen {N K : ℕ} (hK : K ≤ N) (h : Fin N → EReal) (a : Fin K) : Fin N := order h (Fin.castLE hK a)

/-- No place is chosen twice. -/
theorem chosen_injective {N K : ℕ} (hK : K ≤ N) (h : Fin N → EReal) : Function.Injective (chosen hK h) :=
  (sortedFrom_injective _).comp (Fin.castLE_injective hK)

/-- The order's comparison is the extended reals'. -/
theorem gt_eq (x y : EReal) : (FloatOps.cmpfTotal (F := Ideal) (φ := .f32) .gt x y == 1#1) = decide (y < x) := by
  show (BitVec.ofBool (decide (y < x)) == 1#1) = _
  by_cases hxy : y < x <;> simp [hxy]

/-- An entry that is not among the chosen is not greater than any of them. -/
theorem not_lt_of_not_chosen {N K : ℕ} (hK : K ≤ N) (h : Fin N → EReal) (a : Fin K) (j : Fin N)
    (hj : ∀ b, chosen hK h b ≠ j) : ¬ h (chosen hK h a) < h j := by
  obtain ⟨p, rfl⟩ := sortedFrom_surjective
    (fun k k' => FloatOps.cmpfTotal (F := Ideal) (φ := .f32) .gt (h k) (h k') == 1#1) j
  have hp : K ≤ p.val := by
    by_contra hlt
    exact hj ⟨p.val, not_le.1 hlt⟩ rfl
  have hinv := sortedFrom_noInversion
    (fun k k' => FloatOps.cmpfTotal (F := Ideal) (φ := .f32) .gt (h k) (h k') == 1#1)
    (fun k k' => FloatOps.cmpfTotal (F := Ideal) (φ := .f32) .gt (h k) (h k') == 1#1)
    (fun k l hkl => by rw [gt_eq, decide_eq_true_eq] at hkl; rw [gt_eq, decide_eq_false_iff_not]; exact hkl.asymm)
    (fun _ _ hkl => hkl)
    (fun k l m hkl hlm => by
      rw [gt_eq, decide_eq_false_iff_not, not_lt] at *
      exact hkl.trans hlm)
    (Fin.castLE hK a) p (Fin.lt_def.2 (lt_of_lt_of_le a.isLt hp))
  rw [gt_eq, decide_eq_false_iff_not] at hinv
  exact hinv

variable {A B N K : ℕ} (hK : K ≤ N) (s : (⟨3, ![A, B, N]⟩ : Shape).Idx → EReal)
  (hs : (⟨3, ![A, B, N]⟩ : Shape).Slices (fun _ => 0) ⟨3, ![A, B, K]⟩) (n : Fin A) (v : Fin B) (a : Fin K)

/-- Along the last axis an index keeps its first two coordinates. -/
theorem along_last (j k : Fin N) :
    (ix3 n v j : (⟨3, ![A, B, N]⟩ : Shape).Idx).along (2 : Fin 3) k = ix3 n v k := by
  funext d
  fin_cases d <;> rfl

/-- A slice from the origin that keeps the first entries of the last axis. -/
theorem slice_apply {α : Type} (y : (⟨3, ![A, B, N]⟩ : Shape).Idx → α) :
    extractStridedSlice ⟨3, ![A, B, K]⟩ (fun _ => 0) y hs (ix3 n v a) = y (ix3 n v (Fin.castLE hK a)) := by
  refine congrArg y (funext fun d => Fin.ext ?_)
  fin_cases d <;> exact Nat.zero_add _

/-- A sort of two arrays along the last axis by the first one's entries. -/
theorem sort_apply {β : Type} (y : (⟨3, ![A, B, N]⟩ : Shape).Idx → β) (p : Fin N) :
    (Host.sort2 ⟨3, ![A, B, N]⟩ 2 (fun l r => FloatOps.cmpfTotal (F := Ideal) (φ := .f32) .gt l.1 r.1) s y).1 (ix3 n v p)
        = s (ix3 n v (order (fun j => s (ix3 n v j)) p))
      ∧ (Host.sort2 ⟨3, ![A, B, N]⟩ 2 (fun l r => FloatOps.cmpfTotal (F := Ideal) (φ := .f32) .gt l.1 r.1) s y).2 (ix3 n v p)
        = y (ix3 n v (order (fun j => s (ix3 n v j)) p)) := by
  have hrow : sortedFrom (fun k k' => FloatOps.cmpfTotal (F := Ideal) (φ := .f32) .gt
        (s ((ix3 n v p : (⟨3, ![A, B, N]⟩ : Shape).Idx).along (2 : Fin 3) k))
        (s ((ix3 n v p : (⟨3, ![A, B, N]⟩ : Shape).Idx).along (2 : Fin 3) k')) == 1#1) p
      = order (fun j => s (ix3 n v j)) p :=
    congrArg (fun b : Fin N → Fin N → Bool => sortedFrom b p)
      (funext fun k => funext fun k' => by rw [along_last n v p k, along_last n v p k'])
  constructor
  · exact congrArg s ((congrArg ((ix3 n v p : (⟨3, ![A, B, N]⟩ : Shape).Idx).along (2 : Fin 3)) hrow).trans (along_last n v p _))
  · exact congrArg y ((congrArg ((ix3 n v p : (⟨3, ![A, B, N]⟩ : Shape).Idx).along (2 : Fin 3)) hrow).trans (along_last n v p _))

/-- The values of the top-k are the row's entries at the chosen places. -/
theorem values_apply :
    (Host.topK ⟨3, ![A, B, K]⟩ 2 (FloatOps.cmpfTotal (F := Ideal) (φ := .f32) .gt) s hs).1 (ix3 n v a)
      = s (ix3 n v (chosen hK (fun j => s (ix3 n v j)) a)) :=
  (slice_apply hK hs n v a _).trans (sort_apply s n v (iotaInDim ⟨3, ![A, B, N]⟩ 32 2) _).1

/-- The indices of the top-k are the chosen places. -/
theorem indices_apply :
    (Host.topK ⟨3, ![A, B, K]⟩ 2 (FloatOps.cmpfTotal (F := Ideal) (φ := .f32) .gt) s hs).2 (ix3 n v a)
      = BitVec.ofNat 32 (chosen hK (fun j => s (ix3 n v j)) a).val :=
  (slice_apply hK hs n v a _).trans (sort_apply s n v (iotaInDim ⟨3, ![A, B, N]⟩ 32 2) _).2

end Cert.Proof.TopK

end
-- ==== Proof.RefValue.lean ====
module

public import proofs.«01_k».proof.Proof.Gen.ReferenceIdeal.Run
public import proofs.«01_k».proof.Proof.Spec
public import proofs.«01_k».proof.Proof.TopK
public import Idealize.ShloMosaic.Lib.Routing.OpsSet
public import Idealize.ShloMosaic.Lib.WordCmp

@[expose] public section

set_option maxRecDepth 16384

noncomputable section

/-! The reference's result array, entry by entry. -/
namespace Cert.Proof.RefValue

open Idealize.ShloMosaic Cert.ReferenceIdeal Cert.ReferenceIdeal.Gen

variable (X : FVec Ideal S128x256x64x25 .f32) (W : FVec Ideal S32x256 .f32) (b : FVec Ideal S32 .f32) (kp : FVec Ideal S32x128 .f32)

/-- The pooled queries, as the reference computes them. -/
def pooled : FVec Ideal S128x32x25 .f32 :=
  Host.divf (Host.reduceAdd (addf (transpose S128x32x64x25 [1, 0, 2, 3]
      (Host.dotGeneral dot_S32x256_S128x256x64x25_S32x128x64x25_1_1_0_023_n_n none W X) transposes_S32x128x64x25_S128x32x64x25_1_0_2_3)
      (broadcastInDim S128x32x64x25 ![0, 1, 2, 3] bcast_S1x32x1x1_S128x32x64x25_0_1_2_3 (broadcastInDim S1x32x1x1 ![1] bcast_S32_S1x32x1x1_1 b)))
    (constant S_ .f32 0x00000000#32) reducesTo_S128x32x64x25_S128x32x25_d2 h_S_)
    (broadcastInDim S128x32x25 ![] bcast_S_S128x32x25 (constant S_ .f32 0x42800000#32))

/-- The similarities, as the reference computes them from the pooled queries. -/
def sims (q : FVec Ideal S128x32x25 .f32) : FVec Ideal S128x25x128 .f32 :=
  Host.dotGeneral dot_S128x25x32_S32x128_S128x25x128_2_0_01_1_n_n none (transpose S128x25x32 [0, 2, 1]
    (Host.divf q (broadcastInDim S128x32x25 ![0, 1, 2] bcast_S128x1x25_S128x32x25_0_1_2 (maximumf (Host.sqrt
      (broadcastInDim S128x1x25 ![0, 2] bcast_S128x25_S128x1x25_0_2 (Host.reduceAdd (mulf q q) (constant S_ .f32 0x00000000#32)
        reducesTo_S128x32x25_S128x25_d1 h_S_)))
      (broadcastInDim S128x1x25 ![] bcast_S_S128x1x25 (constant S_ .f32 0x2B8CBCCC#32)))))
    transposes_S128x32x25_S128x25x32_0_2_1) kp

/-- The scores, as the reference computes them. -/
def scores : FVec Ideal S128x25x128 .f32 :=
  mulf (sims kp (pooled X W b)) (broadcastInDim S128x25x128 ![] bcast_S_S128x25x128
    (Host.divf (constant S_ .f32 0x3F800000#32) (Host.sqrt (constant S_ .f32 0x42000000#32))))

/-- The pooled queries at an index. -/
theorem pooled_apply (n : Fin 128) (e : Fin 32) (v : Fin 25) :
    pooled X W b (ix3 n e v) = Spec.pooled (fun t k => X (ix4 n k t v)) (fun e k => W (ix2 e k)) (fun e => b (ix1 e)) e := by
  pointwise [pooled]
  rw [Consts.ofBits_64, Spec.mean_bias]
  unfold Spec.pooled
  simp only [mul_comm (W _)]

/-- The similarities at an index. -/
theorem sims_apply (n : Fin 128) (v : Fin 25) (j : Fin 128) :
    sims kp (pooled X W b) (ix3 n v j) = Spec.simAt X W b kp n v j := by
  pointwise [sims]
  simp only [pooled_apply]
  rfl

/-- The scores at an index. -/
theorem scores_apply (n : Fin 128) (v : Fin 25) (j : Fin 128) :
    scores X W b kp (ix3 n v j) = Spec.scoreAt X W b kp n v j := by
  pointwise [scores]
  simp only [sims_apply]
  rw [Consts.ofBits_32, Spec.one_div_sqrt]
  rfl

variable (s : FVec Ideal S128x25x128 .f32)

/-- The sixteen greatest scores of every node, with their places. -/
def top : FVec Ideal S128x25x16 .f32 × IVec S128x25x16 32 :=
  Host.topK S128x25x16 2 (FloatOps.cmpfTotal .gt) s sliceFits_S128x25x128_S128x25x16

/-- The exponentials, each node's maximum taken off. -/
def exps (x : FVec Ideal S128x25x16 .f32) : FVec Ideal S128x25x16 .f32 :=
  Host.exp (subf x (broadcastInDim S128x25x16 ![0, 1, 2] bcast_S128x25x1_S128x25x16_0_1_2 (broadcastInDim S128x25x1 ![0, 1]
    bcast_S128x25_S128x25x1_0_1 (maximumf (broadcastInDim S128x25 ![] bcast_S_S128x25 (constant S_ .f32 0xFF800000#32))
      (Host.reduce FloatOps.maximumf x (constant S_ .f32 0xFF800000#32) reducesTo_S128x25x16_S128x25_d2 h_S_)))))

/-- The softmax of the top scores. -/
def softmax (x : FVec Ideal S128x25x16 .f32) : FVec Ideal S128x25x16 .f32 :=
  Host.divf (exps x) (broadcastInDim S128x25x16 ![0, 1, 2] bcast_S128x25x1_S128x25x16_0_1_2 (broadcastInDim S128x25x1 ![0, 1]
    bcast_S128x25_S128x25x1_0_1 (Host.reduceAdd (exps x) (constant S_ .f32 0x00000000#32) reducesTo_S128x25x16_S128x25_d2 h_S_)))

/-- Where the softmax's entries go: batch, node and prototype of each, a negative index counted from the end. -/
def places (x : IVec S128x25x16 32) : IVec S128x25x16x3 32 :=
  concatenate S128x25x16x3 3 [
    ⟨S128x25x16x1, broadcastInDim S128x25x16x1 ![0, 1, 2] bcast_S128x25x16_S128x25x16x1_0_1_2
      (broadcastInDim S128x25x16 ![0, 1, 2] bcast_S128x1x1_S128x25x16_0_1_2
        (select (cmpi .slt (broadcastInDim S128x1x1 ![0] bcast_S128_S128x1x1_0 (iotaInDim S128 32 0)) (broadcastInDim S128x1x1 ![] bcast_S_S128x1x1 (constantI S_ 32 0#32)))
          (addi (broadcastInDim S128x1x1 ![0] bcast_S128_S128x1x1_0 (iotaInDim S128 32 0)) (broadcastInDim S128x1x1 ![] bcast_S_S128x1x1 (constantI S_ 32 128#32)))
          (broadcastInDim S128x1x1 ![0] bcast_S128_S128x1x1_0 (iotaInDim S128 32 0))))⟩,
    ⟨S128x25x16x1, broadcastInDim S128x25x16x1 ![0, 1, 2] bcast_S128x25x16_S128x25x16x1_0_1_2
      (broadcastInDim S128x25x16 ![0, 1, 2] bcast_S1x25x1_S128x25x16_0_1_2
        (select (cmpi .slt (broadcastInDim S1x25x1 ![1] bcast_S25_S1x25x1_1 (iotaInDim S25 32 0)) (broadcastInDim S1x25x1 ![] bcast_S_S1x25x1 (constantI S_ 32 0#32)))
          (addi (broadcastInDim S1x25x1 ![1] bcast_S25_S1x25x1_1 (iotaInDim S25 32 0)) (broadcastInDim S1x25x1 ![] bcast_S_S1x25x1 (constantI S_ 32 25#32)))
          (broadcastInDim S1x25x1 ![1] bcast_S25_S1x25x1_1 (iotaInDim S25 32 0))))⟩,
    ⟨S128x25x16x1, broadcastInDim S128x25x16x1 ![0, 1, 2] bcast_S128x25x16_S128x25x16x1_0_1_2
      (select (cmpi .slt x (broadcastInDim S128x25x16 ![] bcast_S_S128x25x16 (constantI S_ 32 0#32)))
        (addi x (broadcastInDim S128x25x16 ![] bcast_S_S128x25x16 (constantI S_ 32 128#32))) x)⟩]
    concatenates_S128x25x16x1_S128x25x16x1_S128x25x16x1_S128x25x16x3_d3

/-- The softmax of every node's top scores, put at their places in an array of zeros. -/
def spread : FVec Ideal S128x25x128 .f32 :=
  Host.scatter scatter_S128x25x128_S128x25x16x3_S128x25x16_n_012_012_3 (fun _ b => b)
    (broadcastInDim S128x25x128 ![] bcast_S_S128x25x128 (constant S_ .f32 0x00000000#32)) (places (top s).2) (softmax (top s).1)

/-- The reference's result array is the spread of its scores. -/
theorem res_eq (m : (ℓ : Loc nD τ sig) → Buf (Elt Ideal) ℓ) (c : Dev nD) :
    Cert.ReferenceIdeal.Value.res_main_v56 m c
      = spread (scores (m ((c.tc : Thread nD τ).loc main_arg0)) (m ((c.tc : Thread nD τ).loc main_arg1))
          (m ((c.tc : Thread nD τ).loc main_arg2)) (m ((c.tc : Thread nD τ).loc main_arg3))) := rfl

/-- The row of scores of one node. -/
def row (n : Fin 128) (v : Fin 25) : Fin 128 → EReal := fun j => s (ix3 n v j)

/-- The place of node `v`'s score number `a` from the top. -/
def place (n : Fin 128) (v : Fin 25) : Fin 16 → Fin 128 := TopK.chosen (by decide) (row s n v)

/-- The top scores at an index. -/
theorem top_fst (n : Fin 128) (v : Fin 25) (a : Fin 16) : (top s).1 (ix3 n v a) = row s n v (place s n v a) :=
  TopK.values_apply (by decide) s _ n v a

/-- Their places at an index. -/
theorem top_snd (n : Fin 128) (v : Fin 25) (a : Fin 16) : (top s).2 (ix3 n v a) = BitVec.ofNat 32 (place s n v a).val :=
  TopK.indices_apply (by decide) s _ n v a

/-- The softmax at an index. -/
theorem softmax_apply (x : FVec Ideal S128x25x16 .f32) (n : Fin 128) (v : Fin 25) (a : Fin 16) :
    softmax x (ix3 n v a) = Ideal.div (Ideal.exp (x (ix3 n v a) - Finset.univ.sup fun b => x (ix3 n v b)))
      (∑ c, Ideal.exp (x (ix3 n v c) - Finset.univ.sup fun b => x (ix3 n v b))) := by
  pointwise [softmax, exps]
  simp only [Consts.ofBits_neg_inf, bot_le, max_eq_right]
  rfl

/-- An index word that is not negative stays. -/
theorem wrap_eq (k : ℕ) (N : BitVec 32) (hk : k < 2 ^ 31) :
    Scalar.select (IntOp.cmpi .slt (BitVec.ofNat 32 k) 0#32) (IntOp.addi (BitVec.ofNat 32 k) N) (BitVec.ofNat 32 k) = BitVec.ofNat 32 k := by
  rw [WordCmp.cmpi_slt_zero, WordCmp.select_decide, if_neg]
  rw [BitVec.toNat_ofNat]
  omega

/-- The words of the places. -/
theorem places_apply (n : Fin 128) (v : Fin 25) (a : Fin 16) :
    places (top s).2 (ix4 n v a 0) = BitVec.ofNat 32 n.val ∧ places (top s).2 (ix4 n v a 1) = BitVec.ofNat 32 v.val
      ∧ places (top s).2 (ix4 n v a 2) = BitVec.ofNat 32 (place s n v a).val := by
  refine ⟨?_, ?_, ?_⟩
  · pointwise [places]
    exact wrap_eq _ _ (by omega)
  · pointwise [places]
    exact wrap_eq _ _ (by omega)
  · pointwise [places]
    rw [top_snd]
    exact wrap_eq _ _ (by omega)

/-- An update lands where its three words, read signed, say. -/
theorem lands (idx : IVec S128x25x16x3 32) (n n' : Fin 128) (v v' : Fin 25) (a : Fin 16) (j : Fin 128) :
    scatter_S128x25x128_S128x25x16x3_S128x25x16_n_012_012_3.resultIdx? (ix3 n v a) idx = some (ix3 n' v' j)
      ↔ (idx (ix4 n v a 0)).toInt = n'.val ∧ (idx (ix4 n v a 1)).toInt = v'.val ∧ (idx (ix4 n v a 2)).toInt = j.val := by
  have hstart : ∀ q : Fin 3, scatter_S128x25x128_S128x25x16x3_S128x25x16_n_012_012_3.start (ix3 n v a) idx q = (idx (ix4 n v a q)).toInt := by
    intro q
    have hm : q ∈ ([0, 1, 2] : List (Fin 3)) := by fin_cases q <;> decide
    have hsi : scatter_S128x25x128_S128x25x16x3_S128x25x16_n_012_012_3.siIdx (ix3 n v a)
        ⟨([0, 1, 2] : List (Fin 3)).idxOf q, List.idxOf_lt_length_iff.2 hm⟩ = ix4 n v a q := by
      funext d
      fin_cases q <;> fin_cases d <;> rfl
    unfold ScatterDims.start
    refine (dif_pos hm).trans ?_
    exact congrArg (fun i => (idx i).toInt) hsi
  have hwin : ∀ q : Fin 3, scatter_S128x25x128_S128x25x16x3_S128x25x16_n_012_012_3.window (ix3 n v a) q = 0 := by
    intro q
    fin_cases q <;> rfl
  rw [Routing.resultIdx?_eq_some]
  constructor
  · intro h
    have h0 := h (0 : Fin 3)
    have h1 := h (1 : Fin 3)
    have h2 := h (2 : Fin 3)
    rw [hstart, hwin] at h0 h1 h2
    exact ⟨by simpa using h0, by simpa using h1, by simpa using h2⟩
  · rintro ⟨h0, h1, h2⟩ q
    rw [hstart, hwin]
    fin_cases q
    · simpa using h0
    · simpa using h1
    · simpa using h2

/-- A small natural as a word, read signed. -/
theorem toInt_eq_iff (k l : ℕ) (hk : k < 2 ^ 31) : (BitVec.ofNat 32 k).toInt = (l : ℤ) ↔ k = l := by
  rw [StableHlo.Predicate.toInt_ofNat_small _ hk]
  exact Int.ofNat_inj

/-- Entry `a` of node `v`'s softmax lands at the node's place `a`, and only there. -/
theorem lands_iff (n n' : Fin 128) (v v' : Fin 25) (a : Fin 16) (j : Fin 128) :
    scatter_S128x25x128_S128x25x16x3_S128x25x16_n_012_012_3.resultIdx? (ix3 n v a) (places (top s).2) = some (ix3 n' v' j)
      ↔ n = n' ∧ v = v' ∧ place s n v a = j := by
  obtain ⟨h0, h1, h2⟩ := places_apply s n v a
  rw [lands, h0, h1, h2, toInt_eq_iff _ _ (by omega), toInt_eq_iff _ _ (by omega), toInt_eq_iff _ _ (by omega), Fin.val_inj, Fin.val_inj, Fin.val_inj]

/-- Where the top sixteen are decided and no score is `+∞`, the result's row is the specified one: the softmax of the
    sixteen greatest at their places, and zero elsewhere. -/
theorem spread_apply (n : Fin 128) (v : Fin 25) (hd : Row.Decided 16 (row s n v)) (hfin : ∀ j, row s n v j ≠ ⊤) (j : Fin 128) :
    spread s (ix3 n v j) = Row.result 16 (row s n v) j := by
  have hinj : Function.Injective (place s n v) := TopK.chosen_injective _ _
  have hmax : ∀ a k, (∀ b, place s n v b ≠ k) → ¬ row s n v (place s n v a) < row s n v k :=
    TopK.not_lt_of_not_chosen _ _
  have htwo : ∃ i j : Fin 128, i ≠ j := ⟨0, 1, by decide⟩
  by_cases hj : ∃ a, place s n v a = j
  · obtain ⟨a, rfl⟩ := hj
    refine Routing.scatter_set_hit _ _ _ _ _ _ (fun k hk => ?_) (ix3 n v a) ((lands_iff s n n v v a _).2 ⟨rfl, rfl, rfl⟩)
    obtain ⟨n', v', a', rfl⟩ : ∃ n' v' a', k = ix3 n' v' a' := ⟨k 0, k 1, k 2, by funext d; fin_cases d <;> rfl⟩
    obtain ⟨rfl, rfl, ha⟩ := (lands_iff s n' n v' v a' _).1 hk
    obtain rfl := hinj ha
    rw [softmax_apply]
    simp only [top_fst]
    exact Row.softmax_top hd (by norm_num) hfin htwo _ hinj hmax a'
  · rw [Row.result_of_ge hd (by norm_num) hfin htwo fun h => hj ((Row.mem_range_iff hd _ hinj hmax j).2 h)]
    refine (Routing.scatter_set_miss _ _ _ _ _ fun k hk => ?_).trans ?_
    · obtain ⟨n', v', a', rfl⟩ : ∃ n' v' a', k = ix3 n' v' a' := ⟨k 0, k 1, k 2, by funext d; fin_cases d <;> rfl⟩
      obtain ⟨rfl, rfl, ha⟩ := (lands_iff s n' n v' v a' _).1 hk
      exact hj ⟨a', ha⟩
    · pointwise

end Cert.Proof.RefValue

end
-- ==== Proof.Decided.lean ====
module

public import proofs.«01_k».proof.Proof.Gen.Pre_top_16_is_decided
public import proofs.«01_k».proof.Proof.RefValue
public import Idealize.ShloMosaic.Lib.IndicatorCount

@[expose] public section

set_option maxRecDepth 16384

noncomputable section

/-! What the precondition says of every node's row of scores. -/
namespace Cert.Proof.Decided

open Idealize.ShloMosaic Cert.Pre_top_16_is_decided Cert.Pre_top_16_is_decided.Gen

/-- For each pair of places, whether the first one's similarity is above the second's, as a word. -/
def greater (s : FVec Ideal S128x25x128 .f32) : IVec S128x25x128x128 32 :=
  extui 32 (cmpf .ogt
    (broadcastInDim S128x25x128x128 ![0, 1, 2, 3] bcast_S128x25x1x128_S128x25x128x128_0_1_2_3
      (broadcastInDim S128x25x1x128 ![0, 1, 3] bcast_S128x25x128_S128x25x1x128_0_1_3 s))
    (broadcastInDim S128x25x128x128 ![0, 1, 2, 3] bcast_S128x25x128x1_S128x25x128x128_0_1_2_3
      (broadcastInDim S128x25x128x1 ![0, 1, 2] bcast_S128x25x128_S128x25x128x1_0_1_2 s))) natLt_1_32

/-- The precondition reads the reference's similarities. -/
theorem fn_eq (X : FVec Ideal S128x256x64x25 .f32) (W : FVec Ideal S32x256 .f32) (b : FVec Ideal S32 .f32) (kp : FVec Ideal S32x128 .f32) :
    fn (F := Ideal) X W b kp
      = fn_part1 (RefValue.sims kp (RefValue.pooled X W b)) (greater (RefValue.sims kp (RefValue.pooled X W b))) := rfl

variable (s : FVec Ideal S128x25x128 .f32)

/-- Where both bits of a conjunction are set, each is. -/
theorem and_bits {x y : BitVec 1} (h : IntOp.andi x y = 1#1) : x = 1#1 ∧ y = 1#1 := by
  revert h
  revert x y
  decide

/-- A decision, as a bit, is set exactly where it holds. -/
theorem bit_iff (p : Prop) [Decidable p] : BitVec.ofBool (decide p) = 1#1 ↔ p := by
  by_cases h : p <;> simp [h]

/-- Of a disjunction with a negated conjunction: where both bits of the conjunction are set, the other bit is. -/
theorem or_bits {x y z : BitVec 1} (h : IntOp.ori (~~~IntOp.andi x y) z = 1#1) (hx : x = 1#1) (hy : y = 1#1) : z = 1#1 := by
  subst hx hy
  revert h
  revert z
  decide

/-- A count of at most 128, as a word, is at least sixteen only if it is. -/
theorem sixteen_le {k : ℕ} (hk : k ≤ 128) (h : IntOp.cmpi .sge (BitVec.ofNat 32 k) 16#32 = 1#1) : 16 ≤ k := by
  rw [WordCmp.cmpi_sge_eq, bit_iff, StableHlo.Predicate.toInt_ofNat_small k (by omega)] at h
  exact Int.ofNat_le.1 h

/-- Where the precondition's words are ones, every row's top sixteen are decided and no entry of it is `+∞`. -/
theorem row_of_ones (h : fn_part1 s (greater s) = fun _ => 1#1) (n : Fin 128) (v : Fin 25) :
    Row.Decided 16 (RefValue.row s n v) ∧ ∀ j, RefValue.row s n v j ≠ ⊤ := by
  have hat : ∀ i j : Fin 128, fn_part1 s (greater s) (ix4 n v i j) = 1#1 := fun i j => congrFun h _
  constructor
  · intro i j hij he
    have hb := hat i j
    pointwise [fn_part1, fn_part2, greater] at hb
    have hc := or_bits (and_bits hb).1 ((bit_iff _).2 he) (by
      rw [WordCmp.cmpi_ne_eq, bit_iff]
      intro heq
      have := congrArg BitVec.toNat heq
      rw [BitVec.toNat_ofNat, BitVec.toNat_ofNat] at this
      omega)
    rw [IndicatorCount.fold_addi_setWidth_eq_card] at hc
    have hle := sixteen_le (Finset.card_le_univ _) hc
    exact hle.trans_eq (congrArg Finset.card (Finset.filter_congr fun k _ => bit_iff _))
  · intro j
    have hb := hat j j
    pointwise [fn_part1, fn_part2, greater] at hb
    have hc := (bit_iff _).1 (and_bits hb).2
    rw [Consts.ofBits_inf] at hc
    exact hc.ne

/-- The precondition, at the arguments: every node's scores have a decided top sixteen, and none is `+∞`. -/
theorem scores_of_pre {X : FVec Ideal S128x256x64x25 .f32} {W : FVec Ideal S32x256 .f32} {b : FVec Ideal S32 .f32}
    {kp : FVec Ideal S32x128 .f32} (h : fn (F := Ideal) X W b kp = fun _ => 1#1) (n : Fin 128) (v : Fin 25) :
    Row.Decided 16 (Spec.scoreAt X W b kp n v) ∧ ∀ j, Spec.scoreAt X W b kp n v j ≠ ⊤ := by
  have hrow : RefValue.row (RefValue.sims kp (RefValue.pooled X W b)) n v = Spec.simAt X W b kp n v :=
    funext fun j => RefValue.sims_apply X W b kp n v j
  obtain ⟨hd, hfin⟩ := row_of_ones _ ((fn_eq X W b kp).symm.trans h) n v
  rw [hrow] at hd hfin
  exact ⟨Spec.decided_scale hd, fun j => Spec.scale_ne_top (hfin j)⟩

end Cert.Proof.Decided

end
-- ==== Proof.Agree.lean ====
module

public import proofs.«01_k».proof.Defs
public import proofs.«01_k».proof.Proof.KernelValue
public import proofs.«01_k».proof.Proof.Decided

@[expose] public section

set_option maxRecDepth 16384

noncomputable section

/-! From memories that agree on the arguments, the two programs' result arrays are one. -/
namespace Cert.Proof.Agree

open Idealize.ShloMosaic Idealize.SL.Sem

/-- The reference's result array, from arguments that meet the precondition: each node's row is the softmax of its
    sixteen greatest scores at their places, and zero elsewhere. -/
theorem spread_scores {X : FVec Ideal ReferenceIdeal.S128x256x64x25 .f32} {W : FVec Ideal ReferenceIdeal.S32x256 .f32}
    {b : FVec Ideal ReferenceIdeal.S32 .f32} {kp : FVec Ideal ReferenceIdeal.S32x128 .f32}
    (h : Cert.Pre_top_16_is_decided.fn (F := Ideal) X W b kp = fun _ => 1#1) :
    RefValue.spread (RefValue.scores X W b kp) = fun i => Block.rowOut (Spec.scoreAt X W b kp (i 0) (i 1)) (i 2) := by
  funext i
  obtain ⟨n, v, j, rfl⟩ : ∃ n v j, i = ix3 n v j := ⟨i 0, i 1, i 2, by funext d; fin_cases d <;> rfl⟩
  obtain ⟨hd, hfin⟩ := Decided.scores_of_pre h n v
  have hrow : RefValue.row (RefValue.scores X W b kp) n v = Spec.scoreAt X W b kp n v :=
    funext fun j => RefValue.scores_apply X W b kp n v j
  refine (RefValue.spread_apply _ n v (hrow ▸ hd) (hrow ▸ hfin) j).trans ?_
  rw [hrow]
  exact (Block.rowOut_eq hd j).symm

/-- The reference's result array is the kernel's, where the arguments agree and meet the precondition. -/
theorem res_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hpre : Cert.Pre_KernelIdeal_top_16_is_decided m)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3)) :
    Cert.ReferenceIdeal.Value.res_main_v56 m' c = KernelValue.result m c := by
  refine (RefValue.res_eq m' c).trans ?_
  rw [h0, h1, h2, h3]
  exact spread_scores (hpre c)

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_top_16_is_decided
public import proofs.«01_k».proof.Proof.Agree
public import Idealize.ShloMosaic.Lib.Quiescent
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The ideal reference runs from every memory, leaves its arguments, and every semaphore counter ends at zero. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The kernel's two named constants print as the literals they name. -/
theorem preserves : Cert.preserves_Kernel_KernelIdeal :=
  ⟨IdealRules.named_const.statement Cert.KernelIdeal.κ "scale" .f32 0x3E3504F3#32 (((Real.sqrt 32)⁻¹ : ℝ) : EReal) rfl,
    IdealRules.named_const.statement Cert.KernelIdeal.κ "mask" .f32 0xF149F2CA#32 ⊥ rfl⟩

/-- On the extended reals the kernel's result array is the reference's, where the top sixteen of every row are decided. -/
theorem algebraic : Cert.algebraic_KernelIdeal_ReferenceIdeal_pre_top_16_is_decided := fun m ρ m' ρ' hpre hagree =>
  ⟨fun c => KernelValue.result m c,
    (θ_run Cert.KernelIdeal.defs _ _).mono (fun _ h c => ⟨(h c).1.trans (KernelValue.final m c), (h c).2⟩)
      (Cert.KernelIdeal.Value.run_blocks m ρ),
    (θ_run Cert.ReferenceIdeal.defs _ _).mono
      (fun _ h c => ⟨(h c).1.trans (Agree.res_eq m m' c hpre (hagree c).1 (hagree c).2.1 (hagree c).2.2.1 (hagree c).2.2.2), (h c).2⟩)
      (Cert.ReferenceIdeal.Value.run (F := Ideal) m' ρ')⟩

/-- All the claims. -/
theorem claim : Cert.Claim :=
  ⟨Cert.Kernel.Gen.facts, Cert.KernelIdeal.Gen.facts, Cert.ReferenceIdeal.Gen.facts, Cert.Pre_top_16_is_decided.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, preserves, algebraic⟩

end Cert.Proof

end
